-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_few_per_lane [hPre_few_per_lane : Cert.Pre_few_per_lane.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_few_per_lane.fn (F := Ideal) (m ((c.tc : Thread Cert.Kernel2Ideal.nD Cert.Kernel2Ideal.τ).loc Cert.Kernel2Ideal.main_arg0))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_few_per_lane [hPre_few_per_lane : Cert.Pre_few_per_lane.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_few_per_lane.fn (F := Ideal) (m ((c.tc : Thread Cert.Reference2Ideal.nD Cert.Reference2Ideal.τ).loc Cert.Reference2Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_few_per_lane [hKernel2Ideal : Cert.Kernel2Ideal.Facts] [hPre_few_per_lane : Cert.Pre_few_per_lane.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_few_per_lane m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_few_per_lane [hReference2Ideal : Cert.Reference2Ideal.Facts] [hPre_few_per_lane : Cert.Pre_few_per_lane.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_few_per_lane m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_few_per_lane [hKernel2Ideal : Cert.Kernel2Ideal.Facts] [hReference2Ideal : Cert.Reference2Ideal.Facts] [hPre_few_per_lane : Cert.Pre_few_per_lane.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_few_per_lane m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_few_per_lane : Cert.Pre_few_per_lane.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_few_per_lane (hKernel2Ideal := hKernel2Ideal) (hPre_few_per_lane := hPre_few_per_lane)
    ∧ quiescent_Reference2Ideal (hReference2Ideal := hReference2Ideal)
    ∧ quiescent_Reference2Ideal_pre_few_per_lane (hReference2Ideal := hReference2Ideal) (hPre_few_per_lane := hPre_few_per_lane)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_few_per_lane (hKernel2Ideal := hKernel2Ideal) (hReference2Ideal := hReference2Ideal) (hPre_few_per_lane := hPre_few_per_lane)
-- ==== Pre_few_per_lane.lean ====
abbrev S4x36864 : Shape := ⟨2, ![4, 36864]⟩
abbrev S_ : Shape := ⟨0, ![]⟩
abbrev S4x300 : Shape := ⟨2, ![4, 300]⟩
abbrev S4x1 : Shape := ⟨2, ![4, 1]⟩
abbrev S4x288x128 : Shape := ⟨3, ![4, 288, 128]⟩
abbrev S4x128 : Shape := ⟨2, ![4, 128]⟩

class Facts : Prop where
  bcast_S_S4x36864 : S_.BroadcastsInDim S4x36864 (![] : Fin 0 → Fin S4x36864.rank)
  sliceFits_S4x36864_S4x300 : S4x36864.Slices (fun _ => 0) S4x300
  slices_S4x300_S4x1_0_299 : S4x300.Slices ![0, 299] S4x1
  bcast_S_S4x1 : S_.BroadcastsInDim S4x1 (![] : Fin 0 → Fin S4x1.rank)
  bcast_S4x1_S4x36864_0_1 : S4x1.BroadcastsInDim S4x36864 (![0, 1] : Fin 2 → Fin S4x36864.rank)
  shapeCasts_S4x36864_S4x288x128 : S4x36864.ShapeCasts S4x288x128
  natLt_1_32 : 1 < 32
  reducesTo_S4x288x128_S4x128_d1 : S4x288x128.ReducesTo [1] S4x128
  h_S_ : 0 < S_.numel
  bcast_S_S4x128 : S_.BroadcastsInDim S4x128 (![] : Fin 0 → Fin S4x128.rank)

variable [Facts]

def fn_part1 {F : FTy → Type} [FloatOps F] (main_v16 : IVec S4x128 32) : IVec S4x128 1 :=
  let main_c_3 : IVec S_ 32 := constantI S_ 32 16#32
  let main_v17 : IVec S4x128 32 := broadcastInDim S4x128 ![] bcast_S_S4x128 main_c_3
  let main_v18 : IVec S4x128 1 := cmpi .sle main_v16 main_v17
  main_v18

def fn {F : FTy → Type} [FloatOps F] (main_arg0 : FVec F S4x36864 .f32) : IVec S4x128 1 :=
  let main_v0 : FVec F S4x36864 .f32 := Host.negf main_arg0
  let main_v1 : FVec F S4x36864 .f32 := Host.exp main_v0
  let main_cst : FVec F S_ .f32 := constant S_ .f32 0x3F800000#32
  let main_v2 : FVec F S4x36864 .f32 := broadcastInDim S4x36864 ![] bcast_S_S4x36864 main_cst
  let main_v3 : FVec F S4x36864 .f32 := addf main_v2 main_v1
  let main_cst_0 : FVec F S_ .f32 := constant S_ .f32 0x3F800000#32
  let main_v4 : FVec F S4x36864 .f32 := broadcastInDim S4x36864 ![] bcast_S_S4x36864 main_cst_0
  let main_v5 : FVec F S4x36864 .f32 := Host.divf main_v4 main_v3
  let main_values : FVec F S4x300 .f32 := (fun x => (Host.topK S4x300 1 (FloatOps.cmpfTotal .gt) x sliceFits_S4x36864_S4x300).1) main_v5
  let main_indices : IVec S4x300 32 := (fun x => (Host.topK S4x300 1 (FloatOps.cmpfTotal .gt) x sliceFits_S4x36864_S4x300).2) main_v5
  let main_v6 : FVec F S4x1 .f32 := (extractStridedSlice S4x1 ![0, 299] · slices_S4x300_S4x1_0_299) main_values
  let main_cst_1 : FVec F S_ .f32 := constant S_ .f32 0x3F7F8000#32
  let main_v7 : FVec F S4x1 .f32 := broadcastInDim S4x1 ![] bcast_S_S4x1 main_cst_1
  let main_v8 : FVec F S4x1 .f32 := mulf main_v6 main_v7
  let main_cst_2 : FVec F S_ .f32 := constant S_ .f32 0x00004000#32
  let main_v9 : FVec F S4x1 .f32 := broadcastInDim S4x1 ![] bcast_S_S4x1 main_cst_2
  let main_v10 : FVec F S4x1 .f32 := subf main_v6 main_v9
  let main_v11 : FVec F S4x1 .f32 := minimumf main_v8 main_v10
  let main_v12 : FVec F S4x36864 .f32 := broadcastInDim S4x36864 ![0, 1] bcast_S4x1_S4x36864_0_1 main_v11
  let main_v13 : IVec S4x36864 1 := cmpf .oge main_v5 main_v12
  let main_v14 : IVec S4x288x128 1 := shapeCast S4x288x128 main_v13 shapeCasts_S4x36864_S4x288x128
  let main_v15 : IVec S4x288x128 32 := (extui 32 · natLt_1_32) main_v14
  let main_c : IVec S_ 32 := constantI S_ 32 0#32
  let main_v16 : IVec S4x128 32 := (fun x v => Host.reduce IntOp.addi x v reducesTo_S4x288x128_S4x128_d1 h_S_) main_v15 main_c
  fn_part1 (F := F) main_v16
-- ==== Kernel.lean ====
abbrev S4x384x64x64 : Shape := ⟨4, ![4, 384, 64, 64]⟩
abbrev S384x384x3x3 : Shape := ⟨4, ![384, 384, 3, 3]⟩
abbrev S384 : Shape := ⟨1, ![384]⟩
abbrev S9x384x1x1 : Shape := ⟨4, ![9, 384, 1, 1]⟩
abbrev S9 : Shape := ⟨1, ![9]⟩
abbrev S4x64x64x384 : Shape := ⟨4, ![4, 64, 64, 384]⟩
abbrev S_ : Shape := ⟨0, ![]⟩
abbrev S4x66x66x384 : Shape := ⟨4, ![4, 66, 66, 384]⟩
abbrev S4x66x64x384 : Shape := ⟨4, ![4, 66, 64, 384]⟩
abbrev S4x66x64x1x384 : Shape := ⟨5, ![4, 66, 64, 1, 384]⟩
abbrev S4x66x64x3x384 : Shape := ⟨5, ![4, 66, 64, 3, 384]⟩
abbrev S4x4224x1152 : Shape := ⟨3, ![4, 4224, 1152]⟩
abbrev S3x3x384x384 : Shape := ⟨4, ![3, 3, 384, 384]⟩
abbrev S3456x384 : Shape := ⟨2, ![3456, 384]⟩
abbrev S1x384 : Shape := ⟨2, ![1, 384]⟩
abbrev S9x384 : Shape := ⟨2, ![9, 384]⟩
abbrev S384x9 : Shape := ⟨2, ![384, 9]⟩
abbrev S384x128 : Shape := ⟨2, ![384, 128]⟩
abbrev S1x9 : Shape := ⟨2, ![1, 9]⟩
abbrev S1x128 : Shape := ⟨2, ![1, 128]⟩
abbrev S4x4096x128 : Shape := ⟨3, ![4, 4096, 128]⟩
abbrev S1x4224x1152 : Shape := ⟨3, ![1, 4224, 1152]⟩
abbrev S1x1024x128 : Shape := ⟨3, ![1, 1024, 128]⟩
abbrev S1x1024x1152 : Shape := ⟨3, ![1, 1024, 1152]⟩
abbrev S1024x1152 : Shape := ⟨2, ![1024, 1152]⟩
abbrev S1024x3456 : Shape := ⟨2, ![1024, 3456]⟩
abbrev S1024x384 : Shape := ⟨2, ![1024, 384]⟩
abbrev S1024x128 : Shape := ⟨2, ![1024, 128]⟩
abbrev S128 : Shape := ⟨1, ![128]⟩
abbrev S4x4096x9 : Shape := ⟨3, ![4, 4096, 9]⟩
abbrev S4x36864 : Shape := ⟨2, ![4, 36864]⟩

abbrev nBuf : Space → Nat
  | .hbm => 35
  | .vmem => 8
  | .smem => 0
  | _ => 0

abbrev bufTy : (tb : Table) → Fin (tcTables nBuf tb) → BufTy
  | .hbm, ⟨0, _⟩ => ⟨S4x384x64x64, .f32⟩
  | .hbm, ⟨1, _⟩ => ⟨S384x384x3x3, .f32⟩
  | .hbm, ⟨2, _⟩ => ⟨S384, .f32⟩
  | .hbm, ⟨3, _⟩ => ⟨S9x384x1x1, .f32⟩
  | .hbm, ⟨4, _⟩ => ⟨S9, .f32⟩
  | .hbm, ⟨5, _⟩ => ⟨S4x64x64x384, .f32⟩
  | .hbm, ⟨6, _⟩ => ⟨S_, .i32⟩
  | .hbm, ⟨7, _⟩ => ⟨S_, .f32⟩
  | .hbm, ⟨8, _⟩ => ⟨S4x66x66x384, .f32⟩
  | .hbm, ⟨9, _⟩ => ⟨S4x66x64x384, .f32⟩
  | .hbm, ⟨10, _⟩ => ⟨S4x66x64x384, .f32⟩
  | .hbm, ⟨11, _⟩ => ⟨S4x66x64x384, .f32⟩
  | .hbm, ⟨12, _⟩ => ⟨S4x66x64x1x384, .f32⟩
  | .hbm, ⟨13, _⟩ => ⟨S4x66x64x1x384, .f32⟩
  | .hbm, ⟨14, _⟩ => ⟨S4x66x64x1x384, .f32⟩
  | .hbm, ⟨15, _⟩ => ⟨S4x66x64x3x384, .f32⟩
  | .hbm, ⟨16, _⟩ => ⟨S4x4224x1152, .f32⟩
  | .hbm, ⟨17, _⟩ => ⟨S4x4224x1152, .bf16⟩
  | .hbm, ⟨18, _⟩ => ⟨S3x3x384x384, .f32⟩
  | .hbm, ⟨19, _⟩ => ⟨S3456x384, .f32⟩
  | .hbm, ⟨20, _⟩ => ⟨S3456x384, .bf16⟩
  | .hbm, ⟨21, _⟩ => ⟨S1x384, .f32⟩
  | .hbm, ⟨22, _⟩ => ⟨S9x384, .f32⟩
  | .hbm, ⟨23, _⟩ => ⟨S384x9, .f32⟩
  | .hbm, ⟨24, _⟩ => ⟨S_, .i32⟩
  | .hbm, ⟨25, _⟩ => ⟨S_, .f32⟩
  | .hbm, ⟨26, _⟩ => ⟨S384x128, .f32⟩
  | .hbm, ⟨27, _⟩ => ⟨S384x128, .bf16⟩
  | .hbm, ⟨28, _⟩ => ⟨S1x9, .f32⟩
  | .hbm, ⟨29, _⟩ => ⟨S_, .i32⟩
  | .hbm, ⟨30, _⟩ => ⟨S_, .f32⟩
  | .hbm, ⟨31, _⟩ => ⟨S1x128, .f32⟩
  | .hbm, ⟨32, _⟩ => ⟨S4x4096x128, .f32⟩
  | .hbm, ⟨33, _⟩ => ⟨S4x4096x9, .f32⟩
  | .hbm, ⟨34, _⟩ => ⟨S4x36864, .f32⟩
  | .local _ .vmem, ⟨0, _⟩ => ⟨S1x4224x1152, .bf16⟩
  | .local _ .vmem, ⟨1, _⟩ => ⟨S1x4224x1152, .bf16⟩
  | .local _ .vmem, ⟨2, _⟩ => ⟨S3456x384, .bf16⟩
  | .local _ .vmem, ⟨3, _⟩ => ⟨S1x384, .f32⟩
  | .local _ .vmem, ⟨4, _⟩ => ⟨S384x128, .bf16⟩
  | .local _ .vmem, ⟨5, _⟩ => ⟨S1x128, .f32⟩
  | .local _ .vmem, ⟨6, _⟩ => ⟨S1x1024x128, .f32⟩
  | .local _ .vmem, ⟨7, _⟩ => ⟨S1x1024x128, .f32⟩
  | _, _ => ⟨S4x384x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_call2_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c16_i32 : BitVec 32 := 16#32
  let v0 : BitVec 32 := Scalar.muli arg1 c16_i32
  let c0_i32 : BitVec 32 := 0#32
  let v1 : BitVec 32 := Scalar.addi v0 c0_i32
  let c64_i32 : BitVec 32 := 64#32
  let v2 : BitVec 32 := Scalar.muli v1 c64_i32
  v2
def k0_off1 (i : grid0.Coords) (c0_i32 : BitVec 32) : Fin 3 → Nat :=
  let c0 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let c64_i32 : BitVec 32 := 64#32
  let v2 : BitVec 32 := Scalar.muli v1 c64_i32
  let v3 : BitVec 32 := v2
  let v4 : Index := Scalar.indexCast v3
  let c0_0 : Index := 0#32
  ![0, v4.toNat, 0]
def k0_mult2 (i : grid0.Coords) : BitVec 32 :=
  let arg1 : BitVec 32 := BitVec.ofNat 32 (i 1).val
  let c16_i32 : BitVec 32 := 16#32
  let v0 : BitVec 32 := Scalar.muli arg1 c16_i32
  let c1_i32 : BitVec 32 := 1#32
  let v7 : BitVec 32 := Scalar.addi v0 c1_i32
  let c64_i32_1 : BitVec 32 := 64#32
  let v8 : BitVec 32 := Scalar.muli v7 c64_i32_1
  v8
def k0_mult3 (i : grid0.Coords) : BitVec 32 :=
  let arg1 : BitVec 32 := BitVec.ofNat 32 (i 1).val
  let c16_i32 : BitVec 32 := 16#32
  let v0 : BitVec 32 := Scalar.muli arg1 c16_i32
  let c2_i32 : BitVec 32 := 2#32
  let v13 : BitVec 32 := Scalar.addi v0 c2_i32
  let c64_i32_4 : BitVec 32 := 64#32
  let v14 : BitVec 32 := Scalar.muli v13 c64_i32_4
  v14
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4224x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3456x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x384x64x64 : Shape := ⟨4, ![4, 384, 64, 64]⟩
abbrev S384x384x3x3 : Shape := ⟨4, ![384, 384, 3, 3]⟩
abbrev S384 : Shape := ⟨1, ![384]⟩
abbrev S9x384x1x1 : Shape := ⟨4, ![9, 384, 1, 1]⟩
abbrev S9 : Shape := ⟨1, ![9]⟩
abbrev S_ : Shape := ⟨0, ![]⟩
abbrev S4x384x66x66 : Shape := ⟨4, ![4, 384, 66, 66]⟩
abbrev S384x384x1x1 : Shape := ⟨4, ![384, 384, 1, 1]⟩
abbrev S384x384 : Shape := ⟨2, ![384, 384]⟩
abbrev S384x4x64x64 : Shape := ⟨4, ![384, 4, 64, 64]⟩
abbrev S1x384x1x1 : Shape := ⟨4, ![1, 384, 1, 1]⟩
abbrev S9x384 : Shape := ⟨2, ![9, 384]⟩
abbrev S9x4x64x64 : Shape := ⟨4, ![9, 4, 64, 64]⟩
abbrev S4x9x64x64 : Shape := ⟨4, ![4, 9, 64, 64]⟩
abbrev S1x9x1x1 : Shape := ⟨4, ![1, 9, 1, 1]⟩
abbrev S4x64x64x9 : Shape := ⟨4, ![4, 64, 64, 9]⟩
abbrev S4x36864 : Shape := ⟨2, ![4, 36864]⟩

abbrev nBuf : Space → Nat
  | .hbm => 78
  | .vmem => 0
  | .smem => 0
  | _ => 0

abbrev bufTy : (tb : Table) → Fin (tcTables nBuf tb) → BufTy
  | .hbm, ⟨0, _⟩ => ⟨S4x384x64x64, .f32⟩
  | .hbm, ⟨1, _⟩ => ⟨S384x384x3x3, .f32⟩
  | .hbm, ⟨2, _⟩ => ⟨S384, .f32⟩
  | .hbm, ⟨3, _⟩ => ⟨S9x384x1x1, .f32⟩
  | .hbm, ⟨4, _⟩ => ⟨S9, .f32⟩
  | .hbm, ⟨5, _⟩ => ⟨S_, .i32⟩
  | .hbm, ⟨6, _⟩ => ⟨S_, .f32⟩
  | .hbm, ⟨7, _⟩ => ⟨S4x384x66x66, .f32⟩
  | .hbm, ⟨8, _⟩ => ⟨S_, .f32⟩
  | .hbm, ⟨9, _⟩ => ⟨S4x384x64x64, .f32⟩
  | .hbm, ⟨10, _⟩ => ⟨S4x384x64x64, .f32⟩
  | .hbm, ⟨11, _⟩ => ⟨S384x384x1x1, .f32⟩
  | .hbm, ⟨12, _⟩ => ⟨S384x384, .f32⟩
  | .hbm, ⟨13, _⟩ => ⟨S384x4x64x64, .f32⟩
  | .hbm, ⟨14, _⟩ => ⟨S4x384x64x64, .f32⟩
  | .hbm, ⟨15, _⟩ => ⟨S4x384x64x64, .f32⟩
  | .hbm, ⟨16, _⟩ => ⟨S4x384x64x64, .f32⟩
  | .hbm, ⟨17, _⟩ => ⟨S384x384x1x1, .f32⟩
  | .hbm, ⟨18, _⟩ => ⟨S384x384, .f32⟩
  | .hbm, ⟨19, _⟩ => ⟨S384x4x64x64, .f32⟩
  | .hbm, ⟨20, _⟩ => ⟨S4x384x64x64, .f32⟩
  | .hbm, ⟨21, _⟩ => ⟨S4x384x64x64, .f32⟩
  | .hbm, ⟨22, _⟩ => ⟨S4x384x64x64, .f32⟩
  | .hbm, ⟨23, _⟩ => ⟨S384x384x1x1, .f32⟩
  | .hbm, ⟨24, _⟩ => ⟨S384x384, .f32⟩
  | .hbm, ⟨25, _⟩ => ⟨S384x4x64x64, .f32⟩
  | .hbm, ⟨26, _⟩ => ⟨S4x384x64x64, .f32⟩
  | .hbm, ⟨27, _⟩ => ⟨S4x384x64x64, .f32⟩
  | .hbm, ⟨28, _⟩ => ⟨S4x384x64x64, .f32⟩
  | .hbm, ⟨29, _⟩ => ⟨S384x384x1x1, .f32⟩
  | .hbm, ⟨30, _⟩ => ⟨S384x384, .f32⟩
  | .hbm, ⟨31, _⟩ => ⟨S384x4x64x64, .f32⟩
  | .hbm, ⟨32, _⟩ => ⟨S4x384x64x64, .f32⟩
  | .hbm, ⟨33, _⟩ => ⟨S4x384x64x64, .f32⟩
  | .hbm, ⟨34, _⟩ => ⟨S4x384x64x64, .f32⟩
  | .hbm, ⟨35, _⟩ => ⟨S384x384x1x1, .f32⟩
  | .hbm, ⟨36, _⟩ => ⟨S384x384, .f32⟩
  | .hbm, ⟨37, _⟩ => ⟨S384x4x64x64, .f32⟩
  | .hbm, ⟨38, _⟩ => ⟨S4x384x64x64, .f32⟩
  | .hbm, ⟨39, _⟩ => ⟨S4x384x64x64, .f32⟩
  | .hbm, ⟨40, _⟩ => ⟨S4x384x64x64, .f32⟩
  | .hbm, ⟨41, _⟩ => ⟨S384x384x1x1, .f32⟩
  | .hbm, ⟨42, _⟩ => ⟨S384x384, .f32⟩
  | .hbm, ⟨43, _⟩ => ⟨S384x4x64x64, .f32⟩
  | .hbm, ⟨44, _⟩ => ⟨S4x384x64x64, .f32⟩
  | .hbm, ⟨45, _⟩ => ⟨S4x384x64x64, .f32⟩
  | .hbm, ⟨46, _⟩ => ⟨S4x384x64x64, .f32⟩
  | .hbm, ⟨47, _⟩ => ⟨S384x384x1x1, .f32⟩
  | .hbm, ⟨48, _⟩ => ⟨S384x384, .f32⟩
  | .hbm, ⟨49, _⟩ => ⟨S384x4x64x64, .f32⟩
  | .hbm, ⟨50, _⟩ => ⟨S4x384x64x64, .f32⟩
  | .hbm, ⟨51, _⟩ => ⟨S4x384x64x64, .f32⟩
  | .hbm, ⟨52, _⟩ => ⟨S4x384x64x64, .f32⟩
  | .hbm, ⟨53, _⟩ => ⟨S384x384x1x1, .f32⟩
  | .hbm, ⟨54, _⟩ => ⟨S384x384, .f32⟩
  | .hbm, ⟨55, _⟩ => ⟨S384x4x64x64, .f32⟩
  | .hbm, ⟨56, _⟩ => ⟨S4x384x64x64, .f32⟩
  | .hbm, ⟨57, _⟩ => ⟨S4x384x64x64, .f32⟩
  | .hbm, ⟨58, _⟩ => ⟨S4x384x64x64, .f32⟩
  | .hbm, ⟨59, _⟩ => ⟨S384x384x1x1, .f32⟩
  | .hbm, ⟨60, _⟩ => ⟨S384x384, .f32⟩
  | .hbm, ⟨61, _⟩ => ⟨S384x4x64x64, .f32⟩
  | .hbm, ⟨62, _⟩ => ⟨S4x384x64x64, .f32⟩
  | .hbm, ⟨63, _⟩ => ⟨S4x384x64x64, .f32⟩
  | .hbm, ⟨64, _⟩ => ⟨S1x384x1x1, .f32⟩
  | .hbm, ⟨65, _⟩ => ⟨S4x384x64x64, .f32⟩
  | .hbm, ⟨66, _⟩ => ⟨S4x384x64x64, .f32⟩
  | .hbm, ⟨67, _⟩ => ⟨S_, .f32⟩
  | .hbm, ⟨68, _⟩ => ⟨S4x384x64x64, .f32⟩
  | .hbm, ⟨69, _⟩ => ⟨S4x384x64x64, .f32⟩
  | .hbm, ⟨70, _⟩ => ⟨S9x384, .f32⟩
  | .hbm, ⟨71, _⟩ => ⟨S9x4x64x64, .f32⟩
  | .hbm, ⟨72, _⟩ => ⟨S4x9x64x64, .f32⟩
  | .hbm, ⟨73, _⟩ => ⟨S1x9x1x1, .f32⟩
  | .hbm, ⟨74, _⟩ => ⟨S4x9x64x64, .f32⟩
  | .hbm, ⟨75, _⟩ => ⟨S4x9x64x64, .f32⟩
  | .hbm, ⟨76, _⟩ => ⟨S4x64x64x9, .f32⟩
  | .hbm, ⟨77, _⟩ => ⟨S4x36864, .f32⟩
  | _, _ => ⟨S4x384x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_0 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩

abbrev nD : Nat := 1
abbrev τ : Topo := Topo.v7x

variable {F : FTy → Type} [FloatOps F]
-- ==== Kernel2.lean ====
abbrev S4x36864 : Shape := ⟨2, ![4, 36864]⟩
abbrev S4x288x128 : Shape := ⟨3, ![4, 288, 128]⟩
abbrev S4x1x512 : Shape := ⟨3, ![4, 1, 512]⟩
abbrev S1x288x128 : Shape := ⟨3, ![1, 288, 128]⟩
abbrev S1x1x512 : Shape := ⟨3, ![1, 1, 512]⟩
abbrev S288x128 : Shape := ⟨2, ![288, 128]⟩
abbrev S1 : Shape := ⟨1, ![1]⟩
abbrev S1x1x1 : Shape := ⟨3, ![1, 1, 1]⟩
abbrev S128 : Shape := ⟨1, ![128]⟩
abbrev S1x128 : Shape := ⟨2, ![1, 128]⟩
abbrev S16x128 : Shape := ⟨2, ![16, 128]⟩
abbrev S1x512 : Shape := ⟨2, ![1, 512]⟩
abbrev S1x16x128 : Shape := ⟨3, ![1, 16, 128]⟩
abbrev S4x1x300 : Shape := ⟨3, ![4, 1, 300]⟩
abbrev S4x300 : Shape := ⟨2, ![4, 300]⟩
abbrev S1200 : Shape := ⟨1, ![1200]⟩

abbrev nBuf : Space → Nat
  | .hbm => 6
  | .vmem => 4
  | .smem => 0
  | _ => 0

abbrev bufTy : (tb : Table) → Fin (tcTables nBuf tb) → BufTy
  | .hbm, ⟨0, _⟩ => ⟨S4x36864, .f32⟩
  | .hbm, ⟨1, _⟩ => ⟨S4x288x128, .f32⟩
  | .hbm, ⟨2, _⟩ => ⟨S4x1x512, .i32⟩
  | .hbm, ⟨3, _⟩ => ⟨S4x1x300, .i32⟩
  | .hbm, ⟨4, _⟩ => ⟨S4x300, .i32⟩
  | .hbm, ⟨5, _⟩ => ⟨S1200, .i32⟩
  | .local _ .vmem, ⟨0, _⟩ => ⟨S1x288x128, .f32⟩
  | .local _ .vmem, ⟨1, _⟩ => ⟨S1x288x128, .f32⟩
  | .local _ .vmem, ⟨2, _⟩ => ⟨S1x1x512, .i32⟩
  | .local _ .vmem, ⟨3, _⟩ => ⟨S1x1x512, .i32⟩
  | _, _ => ⟨S4x36864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_2 : BitVec 32 := 0#32
  let c16_i32 : BitVec 32 := 16#32
  let v8 : BitVec 32 := Scalar.addi c0_i32_2 c16_i32
  let c1_i32 : BitVec 32 := 1#32
  ⟨c0_i32_2, v8, c1_i32⟩
@[reducible] def k0_t2_loop : Scf.Loop 32 :=
  let c0_i32_166 : BitVec 32 := 0#32
  let c300_i32 : BitVec 32 := 300#32
  let v393 : BitVec 32 := Scalar.addi c0_i32_166 c300_i32
  let c1_i32_167 : BitVec 32 := 1#32
  ⟨c0_i32_166, v393, c1_i32_167⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x288x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference2Ideal.lean ====
abbrev S4x36864 : Shape := ⟨2, ![4, 36864]⟩
abbrev S_ : Shape := ⟨0, ![]⟩
abbrev S4x300 : Shape := ⟨2, ![4, 300]⟩
abbrev S4 : Shape := ⟨1, ![4]⟩
abbrev S4x1 : Shape := ⟨2, ![4, 1]⟩
abbrev S1200 : Shape := ⟨1, ![1200]⟩

abbrev nBuf : Space → Nat
  | .hbm => 19
  | .vmem => 0
  | .smem => 0
  | _ => 0

abbrev bufTy : (tb : Table) → Fin (tcTables nBuf tb) → BufTy
  | .hbm, ⟨0, _⟩ => ⟨S4x36864, .f32⟩
  | .hbm, ⟨1, _⟩ => ⟨S4x36864, .f32⟩
  | .hbm, ⟨2, _⟩ => ⟨S4x36864, .f32⟩
  | .hbm, ⟨3, _⟩ => ⟨S_, .f32⟩
  | .hbm, ⟨4, _⟩ => ⟨S4x36864, .f32⟩
  | .hbm, ⟨5, _⟩ => ⟨S4x36864, .f32⟩
  | .hbm, ⟨6, _⟩ => ⟨S_, .f32⟩
  | .hbm, ⟨7, _⟩ => ⟨S4x36864, .f32⟩
  | .hbm, ⟨8, _⟩ => ⟨S4x36864, .f32⟩
  | .hbm, ⟨9, _⟩ => ⟨S4x300, .f32⟩
  | .hbm, ⟨10, _⟩ => ⟨S4x300, .i32⟩
  | .hbm, ⟨11, _⟩ => ⟨S4, .i32⟩
  | .hbm, ⟨12, _⟩ => ⟨S4x1, .i32⟩
  | .hbm, ⟨13, _⟩ => ⟨S_, .i32⟩
  | .hbm, ⟨14, _⟩ => ⟨S4x1, .i32⟩
  | .hbm, ⟨15, _⟩ => ⟨S4x1, .i32⟩
  | .hbm, ⟨16, _⟩ => ⟨S4x300, .i32⟩
  | .hbm, ⟨17, _⟩ => ⟨S4x300, .i32⟩
  | .hbm, ⟨18, _⟩ => ⟨S1200, .i32⟩
  | _, _ => ⟨S4x36864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_values : Ref sig .tc := ⟨.hbm, 9, rfl⟩
abbrev main_indices : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Proof.Conv.Block.lean ====
module

public import proofs.«01_k».proof.Proof.Gen.KernelIdeal.Frame
public import Idealize.ShloMosaic.Lib.Pointwise
public import Idealize.ShloMosaic.Lib.Pipeline.Value
public import Idealize.ShloMosaic.Lib.Pipeline.ValueKit.Tiles

@[expose] public section

noncomputable section

/-! What one run of the body leaves in its output block. -/

namespace Cert.KernelIdeal.Conv

open Cert.KernelIdeal Cert.KernelIdeal.Gen Idealize.ShloMosaic Idealize.ShloMosaic.TcCoe

theorem hz2 : (![0, 0] : Fin 2 → Nat) = fun _ => 0 := funext fun a => by fin_cases a <;> rfl
theorem hz3 : (![0, 0, 0] : Fin 3 → Nat) = fun _ => 0 := funext fun a => by fin_cases a <;> rfl

/-- The three row bands the body reads, side by side: entry `k` of row `r` is entry `k % 1152` of band `k / 1152`. -/
def bands (x : Fin 3 → Vec Ideal S1x1024x1152 .bf16) (r : Fin 1024) (k : Fin 3456) : EReal :=
  x ⟨(k : ℕ) / 1152, by omega⟩ (ix3 0 r ⟨(k : ℕ) % 1152, Nat.mod_lt _ (by decide)⟩)

/-- The two products of the body at one entry: the bands times the 3x3 weights, plus the bias, rectified, times the
    projection. -/
theorem pay2_apply (x : Fin 3 → Vec Ideal S1x1024x1152 .bf16) (w : Vec Ideal S3456x384 .bf16)
    (b : Vec Ideal S1x384 .f32) (p : Vec Ideal S384x128 .bf16) (r : Fin 1024) (a : Fin 128) :
    k0_pay2 (x 0) (x 1) (x 2) w b p (ix2 r a)
      = ∑ o : Fin 384, max (∑ k : Fin 3456, bands x r k * w (ix2 k o) + b (ix2 0 o)) 0 * p (ix2 o a) := by
  pointwise [k0_pay2]
  refine Finset.sum_congr rfl fun o _ => ?_
  refine congrArg (fun s : EReal => max (s + b (ix2 0 o)) 0 * p (ix2 o a)) ?_
  refine Finset.sum_congr rfl fun k _ => congrArg (fun s : EReal => s * w (ix2 k o)) ?_
  unfold bands
  have hk := k.isLt
  split
  · have e : (⟨(k : ℕ) / 1152, by omega⟩ : Fin 3) = 0 := Fin.ext (by show (k : ℕ) / 1152 = 0; omega)
    rw [e]; exact congrArg (fun j => x _ (ix3 0 r j)) (Fin.ext (by dsimp only; omega))
  · split
    · have e : (⟨(k : ℕ) / 1152, by omega⟩ : Fin 3) = 1 := Fin.ext (by show (k : ℕ) / 1152 = 1; omega)
      rw [e]; exact congrArg (fun j => x _ (ix3 0 r j)) (Fin.ext (by dsimp only; omega))
    · have e : (⟨(k : ℕ) / 1152, by omega⟩ : Fin 3) = 2 := Fin.ext (by show (k : ℕ) / 1152 = 2; omega)
      rw [e]; exact congrArg (fun j => x _ (ix3 0 r j)) (Fin.ext (by dsimp only; omega))

/-- The body's last step: the projection's bias is added to every row. -/
theorem pay1_apply (x : FVec Ideal S1024x128 .f32) (b : Vec Ideal S1x128 .f32) (z : Fin 1) (r : Fin 1024) (a : Fin 128) :
    k0_pay1 x b (ix3 z r a) = x (ix2 r a) + b (ix2 0 a) := by
  pointwise [k0_pay1]

/-- Band `ky` of the columns' block, as the body at row block `i 1` reads it: 1024 rows from row `1024 (i 1) + 64 ky`. -/
def band (i : grid0.Coords) (x : Vec Ideal S1x4224x1152 .bf16) (ky : Fin 3) : Vec Ideal S1x1024x1152 .bf16 :=
  View.ld x (Rect.unit (s := S1x4224x1152) (k0_off1 i (BitVec.ofNat 32 ky.val)) S1x1024x1152.size (k0_off1_inb i ky))

theorem band_apply (i : grid0.Coords) (x : Vec Ideal S1x4224x1152 .bf16) (ky : Fin 3) (r : Fin 1024) (j : Fin 1152)
    (h : 1024 * (i 1).val + 64 * ky.val + r.val < 4224) :
    band i x ky (ix3 0 r j) = x (ix3 0 ⟨1024 * (i 1).val + 64 * ky.val + r.val, h⟩ j) := by
  unfold band
  refine View.ld_unit_apply_of x _ _ _ _ _ fun a => ?_
  have e := congrFun (k0_off1_eq i ky) a
  rw [e]
  match a with
  | ⟨0, _⟩ => rfl
  | ⟨1, _⟩ => rfl
  | ⟨2, _⟩ => exact (Nat.zero_add _).symm

/-- The output block after one run of the body, from the blocks its five inputs hold. -/
theorem out_A (c : Dev nD) (i : grid0.Coords)
    (a2 : Memref sig .tc .vmem S1x4224x1152 .bf16) (h2 : a2.IsWhole) (a3 : Memref sig .tc .vmem S3456x384 .bf16) (h3 : a3.IsWhole)
    (a4 : Memref sig .tc .vmem S1x384 .f32) (h4 : a4.IsWhole) (a5 : Memref sig .tc .vmem S384x128 .bf16) (h5 : a5.IsWhole)
    (a6 : Memref sig .tc .vmem S1x128 .f32) (h6 : a6.IsWhole) (a7 : Memref sig .tc .vmem S1x1024x128 .f32) (h7 : a7.IsWhole)
    (x : Vec Ideal S1x4224x1152 .bf16) (w : Vec Ideal S3456x384 .bf16) (b : Vec Ideal S1x384 .f32)
    (p : Vec Ideal S384x128 .bf16) (q : Vec Ideal S1x128 .f32) :
    out0_A_5 c i a2 h2 a3 h3 a4 h4 a5 h5 a6 h6 a7 h7 x w b p q
      = k0_pay1 (k0_pay2 (band i x 0) (band i x 1) (band i x 2) w b p) q := by
  unfold out0_A_5
  rw [View.read_writes_eq_canon _ _ _ (cover0_A_5 c i a2 h2 a3 h3 a4 h4 a5 h5 a6 h6 a7 h7 x w b p q)]
  unfold kernelRun0_A
  dsimp only
  sl_unfold_words
  rw [View.canon_unit_zero hz3]
  simp only [View.readAt_eq_ld, h2.read_unread, h3.read_unread, h4.read_unread, h5.read_unread, h6.read_unread,
    View.ld_unit_zero (S := S3456x384) hz2, View.ld_unit_zero (S := S1x384) hz2, View.ld_unit_zero (S := S384x128) hz2,
    View.ld_unit_zero (S := S1x128) hz2]
  rfl

/-- The same at one entry. -/
theorem out_A_apply (c : Dev nD) (i : grid0.Coords)
    (a2 : Memref sig .tc .vmem S1x4224x1152 .bf16) (h2 : a2.IsWhole) (a3 : Memref sig .tc .vmem S3456x384 .bf16) (h3 : a3.IsWhole)
    (a4 : Memref sig .tc .vmem S1x384 .f32) (h4 : a4.IsWhole) (a5 : Memref sig .tc .vmem S384x128 .bf16) (h5 : a5.IsWhole)
    (a6 : Memref sig .tc .vmem S1x128 .f32) (h6 : a6.IsWhole) (a7 : Memref sig .tc .vmem S1x1024x128 .f32) (h7 : a7.IsWhole)
    (x : Vec Ideal S1x4224x1152 .bf16) (w : Vec Ideal S3456x384 .bf16) (b : Vec Ideal S1x384 .f32)
    (p : Vec Ideal S384x128 .bf16) (q : Vec Ideal S1x128 .f32) (r : Fin 1024) (a : Fin 128) :
    (out0_A_5 c i a2 h2 a3 h3 a4 h4 a5 h5 a6 h6 a7 h7 x w b p q : Vec Ideal S1x1024x128 .f32) (ix3 0 r a)
      = ∑ o : Fin 384, max (∑ k : Fin 3456, bands (band i x) r k * w (ix2 k o) + b (ix2 0 o)) 0 * p (ix2 o a) + q (ix2 0 a) := by
  rw [out_A, pay1_apply, pay2_apply (band i x)]

end Cert.KernelIdeal.Conv

end
-- ==== Proof.Conv.Spec.lean ====
module

public import Idealize.ShloMosaic.Lib.Pointwise

@[expose] public section

noncomputable section

/-! What the head computes, over the extended reals, at one anchor of one pixel of one image: a 3x3 convolution with a
border of zeros, a bias, the rectifier, then a 1x1 projection with its bias. Both programs are read as this formula. -/

namespace Cert.Conv

open Idealize.ShloMosaic

/-- Channel `c` of image `b` at row `y`, column `x` of the bordered image: rows and columns count from the border, so
    the image's own pixels are those with `1 ≤ y, x ≤ 64`, and the border is zero. -/
def padAt (fm : Vec Ideal ⟨4, ![4, 384, 64, 64]⟩ .f32) (b : Fin 4) (c : Fin 384) (y x : ℕ) : EReal :=
  if h : (1 ≤ y ∧ y - 1 < 64) ∧ (1 ≤ x ∧ x - 1 < 64) then fm (ix4 b c ⟨y - 1, h.1.2⟩ ⟨x - 1, h.2.2⟩) else 0

/-- What kernel position `(ky, kx)` contributes to output channel `o` at pixel `(y, x)`: the sum over the input
    channels of the bordered image's pixel times the weight. -/
def tap (fm : Vec Ideal ⟨4, ![4, 384, 64, 64]⟩ .f32) (wpre : Vec Ideal ⟨4, ![384, 384, 3, 3]⟩ .f32)
    (b : Fin 4) (o : Fin 384) (y x : ℕ) (ky kx : Fin 3) : EReal :=
  ∑ c : Fin 384, padAt fm b c (y + ky) (x + kx) * wpre (ix4 o c ky kx)

/-- Output channel `o` of the convolution at pixel `(y, x)`: the nine kernel positions, row by row. -/
def conv (fm : Vec Ideal ⟨4, ![4, 384, 64, 64]⟩ .f32) (wpre : Vec Ideal ⟨4, ![384, 384, 3, 3]⟩ .f32)
    (b : Fin 4) (o : Fin 384) (y x : ℕ) : EReal :=
  ∑ ky : Fin 3, ∑ kx : Fin 3, tap fm wpre b o y x ky kx

/-- The logit of anchor `a` at pixel `(y, x)` of image `b`. -/
def logit (fm : Vec Ideal ⟨4, ![4, 384, 64, 64]⟩ .f32) (wpre : Vec Ideal ⟨4, ![384, 384, 3, 3]⟩ .f32)
    (bpre : Vec Ideal ⟨1, ![384]⟩ .f32) (wproj : Vec Ideal ⟨4, ![9, 384, 1, 1]⟩ .f32) (bproj : Vec Ideal ⟨1, ![9]⟩ .f32)
    (b : Fin 4) (y x : ℕ) (a : Fin 9) : EReal :=
  ∑ o : Fin 384, max (conv fm wpre b o y x + bpre (ix1 o)) 0 * wproj (ix4 a o 0 0) + bproj (ix1 a)

/-- All logits, an image's in the order row, column, anchor. -/
def logits (fm : Vec Ideal ⟨4, ![4, 384, 64, 64]⟩ .f32) (wpre : Vec Ideal ⟨4, ![384, 384, 3, 3]⟩ .f32)
    (bpre : Vec Ideal ⟨1, ![384]⟩ .f32) (wproj : Vec Ideal ⟨4, ![9, 384, 1, 1]⟩ .f32) (bproj : Vec Ideal ⟨1, ![9]⟩ .f32) :
    Vec Ideal ⟨2, ![4, 36864]⟩ .f32 := fun i =>
  logit fm wpre bpre wproj bproj (i 0) ((i 1 : ℕ) / 9 / 64) ((i 1 : ℕ) / 9 % 64) ⟨(i 1 : ℕ) % 9, Nat.mod_lt _ (by decide)⟩

/-- A sum over 3456 terms laid out as three rows of three groups of 384 is the double sum over the nine groups. -/
theorem sum_3456 (f : Fin 3456 → EReal) (g : Fin 3 → Fin 3 → Fin 384 → EReal)
    (h : ∀ (ky kx : Fin 3) (c : Fin 384) (hk : (ky : ℕ) * 1152 + ((kx : ℕ) * 384 + (c : ℕ)) < 3456),
      f ⟨(ky : ℕ) * 1152 + ((kx : ℕ) * 384 + (c : ℕ)), hk⟩ = g ky kx c) :
    ∑ k, f k = ∑ ky, ∑ kx, ∑ c, g ky kx c := by
  let e1 : Fin 3 × Fin 1152 ≃ Fin 3456 := finProdFinEquiv
  let e2 : Fin 3 × Fin 384 ≃ Fin 1152 := finProdFinEquiv
  rw [← e1.sum_comp, Fintype.sum_prod_type]
  refine Finset.sum_congr rfl fun ky _ => ?_
  rw [← e2.sum_comp, Fintype.sum_prod_type]
  refine Finset.sum_congr rfl fun kx _ => Finset.sum_congr rfl fun c _ => ?_
  have hk : (ky : ℕ) * 1152 + ((kx : ℕ) * 384 + (c : ℕ)) < 3456 := by omega
  rw [← h ky kx c hk]
  congr 1
  apply Fin.ext
  show (c : ℕ) + 384 * (kx : ℕ) + 1152 * (ky : ℕ) = (ky : ℕ) * 1152 + ((kx : ℕ) * 384 + (c : ℕ))
  omega

end Cert.Conv

end
-- ==== Proof.Conv.Entry.lean ====
module

public import proofs.«01_k».proof.Proof.Gen.KernelIdeal.Frame
public import proofs.«01_k».proof.Proof.Conv.Spec
public import Idealize.ShloMosaic.Lib.StableHlo.RunRead

@[expose] public section

noncomputable section

/-! What the arrays hold when the kernel is launched, entry by entry, in terms of the program's five arguments. -/

namespace Cert.KernelIdeal.Conv

open Cert.KernelIdeal Cert.KernelIdeal.Gen Idealize.ShloMosaic Idealize.ShloMosaic.TcCoe

variable (m : (ℓ : Loc nD τ sig) → Buf (Elt Ideal) ℓ) (c : Dev nD)

/-- The features. -/
abbrev fm : Vec Ideal S4x384x64x64 .f32 := m ((c.tc : Thread nD τ).loc main_arg0)
/-- The 3x3 kernel. -/
abbrev wpre : Vec Ideal S384x384x3x3 .f32 := m ((c.tc : Thread nD τ).loc main_arg1)
/-- The convolution's bias. -/
abbrev bpre : Vec Ideal S384 .f32 := m ((c.tc : Thread nD τ).loc main_arg2)
/-- The projection. -/
abbrev wproj : Vec Ideal S9x384x1x1 .f32 := m ((c.tc : Thread nD τ).loc main_arg3)
/-- The projection's bias. -/
abbrev bproj : Vec Ideal S9 .f32 := m ((c.tc : Thread nD τ).loc main_arg4)

/-- An integer zero read as a float is zero. -/
theorem sitofp_zero : (FloatOps.sitofp FTy.f32 (0#32) : Ideal .f32) = (0 : EReal) := by
  show (((0#32 : BitVec 32).toInt : ℝ) : EReal) = 0
  simp

/-- The gathered columns: row `r` is pixel `r % 64` of the bordered image's row `r / 64`, and its entry `j` is channel
    `j % 384` of the pixel `j / 384` places to the right. -/
theorem entry_x (b : Fin 4) (r : Fin 4224) (j : Fin 1152) :
    (V m c main_v10 : Vec Ideal S4x4224x1152 .bf16) (ix3 b r j)
      = Cert.Conv.padAt (fm m c) b ⟨(j : ℕ) % 384, Nat.mod_lt _ (by decide)⟩ ((r : ℕ) / 64) ((r : ℕ) % 64 + (j : ℕ) / 384) := by
  unfold V V0
  dsimp only [List.flatten, List.append, hostOps0, hostOps0_1, hostOps0_2, hostOps0_3, hostOps0_4, hostOps0_5]
  simp only [StableHlo.TRef.binary, StableHlo.TRef.unary, StableHlo.TRef.toBuf, StableHlo.TRef.ofBuf, cast_eq]
  after_reads_simp
  pointwise
  after_reads_simp
  pointwise
  simp only [sitofp_zero]
  unfold Cert.Conv.padAt
  have hj := j.isLt
  have hc : (j : ℕ) % 384 < 384 := Nat.mod_lt _ (by decide)
  split
  · rename_i h0
    have e : (j : ℕ) / 384 = 0 := by omega
    simp only [e, Nat.add_zero, hc, and_true]
  · split
    · have e : (j : ℕ) / 384 = 1 := by omega
      have h64 : (r : ℕ) % 64 < 64 := Nat.mod_lt _ (by decide)
      simp only [e, hc, h64, and_true, Nat.add_sub_cancel, Nat.le_add_left, true_and]
    · have e : (j : ℕ) / 384 = 2 := by omega
      simp only [e, hc, and_true, Nat.add_comm 2]

/-- The 3x3 kernel as a matrix: its row `k` is kernel position `(k / 1152, k / 384 % 3)`, input channel `k % 384`. -/
theorem entry_w (k : Fin 3456) (o : Fin 384) :
    (V m c main_v13 : Vec Ideal S3456x384 .bf16) (ix2 k o)
      = wpre m c (ix4 o ⟨(k : ℕ) % 384, Nat.mod_lt _ (by decide)⟩ ⟨(k : ℕ) / 1152, by omega⟩ ⟨(k : ℕ) / 384 % 3, Nat.mod_lt _ (by decide)⟩) := by
  unfold V V0
  dsimp only [List.flatten, List.append, hostOps0, hostOps0_1, hostOps0_2, hostOps0_3, hostOps0_4, hostOps0_5]
  simp only [StableHlo.TRef.binary, StableHlo.TRef.unary, StableHlo.TRef.toBuf, StableHlo.TRef.ofBuf, cast_eq]
  after_reads_simp
  pointwise

/-- The convolution's bias as a row. -/
theorem entry_b (o : Fin 384) : (V m c main_v14 : Vec Ideal S1x384 .f32) (ix2 0 o) = bpre m c (ix1 o) := by
  unfold V V0
  dsimp only [List.flatten, List.append, hostOps0, hostOps0_1, hostOps0_2, hostOps0_3, hostOps0_4, hostOps0_5]
  simp only [StableHlo.TRef.binary, StableHlo.TRef.unary, StableHlo.TRef.toBuf, StableHlo.TRef.ofBuf, cast_eq]
  after_reads_simp
  pointwise

/-- The projection as a matrix, in the first nine of its 128 columns. -/
theorem entry_p (o : Fin 384) (a : Fin 128) (ha : (a : ℕ) < 9) :
    (V m c main_v18 : Vec Ideal S384x128 .bf16) (ix2 o a) = wproj m c (ix4 ⟨a, ha⟩ o 0 0) := by
  unfold V V0
  dsimp only [List.flatten, List.append, hostOps0, hostOps0_1, hostOps0_2, hostOps0_3, hostOps0_4, hostOps0_5]
  simp only [StableHlo.TRef.binary, StableHlo.TRef.unary, StableHlo.TRef.toBuf, StableHlo.TRef.ofBuf, cast_eq]
  after_reads_simp
  pointwise
  rw [dif_pos ha]

/-- The projection's bias, in the first nine of its 128 columns. -/
theorem entry_q (a : Fin 128) (ha : (a : ℕ) < 9) :
    (V m c main_v20 : Vec Ideal S1x128 .f32) (ix2 0 a) = bproj m c (ix1 ⟨a, ha⟩) := by
  unfold V V0
  dsimp only [List.flatten, List.append, hostOps0, hostOps0_1, hostOps0_2, hostOps0_3, hostOps0_4, hostOps0_5]
  simp only [StableHlo.TRef.binary, StableHlo.TRef.unary, StableHlo.TRef.toBuf, StableHlo.TRef.ofBuf, cast_eq]
  after_reads_simp
  pointwise
  rw [dif_pos ha]

end Cert.KernelIdeal.Conv

end
-- ==== Proof.Conv.Array.lean ====
module

public import proofs.«01_k».proof.Proof.Conv.Block
public import proofs.«01_k».proof.Proof.Conv.Entry
public import Idealize.ShloMosaic.Lib.Pipeline.ValueKit.Point

@[expose] public section

noncomputable section

/-! What the kernel's output array holds at the end, from the arrays it is launched on. -/

namespace Cert.KernelIdeal.Conv

open Cert.KernelIdeal Cert.KernelIdeal.Gen Idealize.ShloMosaic Idealize.ShloMosaic.TcCoe
open Idealize.ShloMosaic.Pipeline (Dat)

/-- The columns of pixel `p` of image `b`, in the order the matrix of the 3x3 weights has its rows: entry `k` is entry
    `k % 1152` of the gathered row `64 (k / 1152)` below `p`. -/
def patch (X : Vec Ideal S4x4224x1152 .bf16) (b : Fin 4) (p : Fin 4096) (k : Fin 3456) : EReal :=
  X (ix3 b ⟨(p : ℕ) + 64 * ((k : ℕ) / 1152), by omega⟩ ⟨(k : ℕ) % 1152, Nat.mod_lt _ (by decide)⟩)

/-- The output array as one function of the five arrays the kernel is launched on. -/
def outArr (X : Vec Ideal S4x4224x1152 .bf16) (W : Vec Ideal S3456x384 .bf16) (B : Vec Ideal S1x384 .f32)
    (P : Vec Ideal S384x128 .bf16) (Q : Vec Ideal S1x128 .f32) : Vec Ideal S4x4096x128 .f32 := fun i =>
  ∑ o : Fin 384, max (∑ k : Fin 3456, patch X (i 0) (i 1) k * W (ix2 k o) + B (ix2 0 o)) 0 * P (ix2 o (i 2)) + Q (ix2 0 (i 2))

variable (m : (ℓ : Loc nD τ sig) → Buf (Elt Ideal) ℓ) (ρ : Dev nD → PrngReg)

/-- Which block of its array each window stages at a point: the columns' at the point's image, the output's at the
    point's image and row block, the others whole. -/
theorem idx : ∀ t : Fin cfg0.N, win0_0.index t = ![((grid0.coords t) 0).val, 0, 0] ∧ win0_1.index t = ![0, 0] ∧ win0_2.index t = ![0, 0]
    ∧ win0_3.index t = ![0, 0] ∧ win0_4.index t = ![0, 0] ∧ win0_5.index t = ![((grid0.coords t) 0).val, ((grid0.coords t) 1).val, 0] :=
  (by decide +kernel : ∀ t : Fin grid0.N, _)

/-- Where an entry of the columns' block lies in the gathered columns. -/
theorem emb_x (t : Fin cfg0.N) (y : S1x4224x1152.Idx) :
    ((win0_0.blk t).view.emb y : S4x4224x1152.Idx) = ix3 ((grid0.coords t) 0) (y 1) (y 2) := by
  blk_ext [idx t]

/-- Any contents of the gathered columns, read through a point's block. -/
theorem read_x (f : Vec Ideal S4x4224x1152 .bf16) (t : Fin cfg0.N) (r : Fin 4224) (j : Fin 1152) :
    (((cfg0.win 0).blk t).view.read (Elt Ideal) f : Vec Ideal S1x4224x1152 .bf16) (ix3 0 r j) = f (ix3 ((grid0.coords t) 0) r j) :=
  congrArg f (emb_x t (ix3 0 r j))

/-- The columns' block at a point is its image's. -/
theorem iblk_x (c : Dev nD) (t : Fin cfg0.N) (r : Fin 4224) (j : Fin 1152) :
    (iblk m c 0 t : Vec Ideal S1x4224x1152 .bf16) (ix3 0 r j)
      = (V m c main_v10 : Vec Ideal S4x4224x1152 .bf16) (ix3 ((grid0.coords t) 0) r j) := by
  unfold iblk
  exact read_x (V m c main_v10) t r j

/-- The other inputs' blocks are their whole arrays. -/
theorem read_w (f : Vec Ideal S3456x384 .bf16) (t : Fin cfg0.N) (y : S3456x384.Idx) :
    (((cfg0.win 1).blk t).view.read (Elt Ideal) f : Vec Ideal S3456x384 .bf16) y = f y :=
  congrArg f (show ((win0_1.blk t).view.emb y : S3456x384.Idx) = y by blk_ext [idx t])

theorem iblk_w (c : Dev nD) (t : Fin cfg0.N) (k : Fin 3456) (o : Fin 384) :
    (iblk m c 1 t : Vec Ideal S3456x384 .bf16) (ix2 k o) = (V m c main_v13 : Vec Ideal S3456x384 .bf16) (ix2 k o) := by
  unfold iblk
  exact read_w (V m c main_v13) t (ix2 k o)

theorem read_b (f : Vec Ideal S1x384 .f32) (t : Fin cfg0.N) (y : S1x384.Idx) :
    (((cfg0.win 2).blk t).view.read (Elt Ideal) f : Vec Ideal S1x384 .f32) y = f y :=
  congrArg f (show ((win0_2.blk t).view.emb y : S1x384.Idx) = y by blk_ext [idx t])

theorem iblk_b (c : Dev nD) (t : Fin cfg0.N) (o : Fin 384) :
    (iblk m c 2 t : Vec Ideal S1x384 .f32) (ix2 0 o) = (V m c main_v14 : Vec Ideal S1x384 .f32) (ix2 0 o) := by
  unfold iblk
  exact read_b (V m c main_v14) t (ix2 0 o)

theorem read_p (f : Vec Ideal S384x128 .bf16) (t : Fin cfg0.N) (y : S384x128.Idx) :
    (((cfg0.win 3).blk t).view.read (Elt Ideal) f : Vec Ideal S384x128 .bf16) y = f y :=
  congrArg f (show ((win0_3.blk t).view.emb y : S384x128.Idx) = y by blk_ext [idx t])

theorem iblk_p (c : Dev nD) (t : Fin cfg0.N) (o : Fin 384) (a : Fin 128) :
    (iblk m c 3 t : Vec Ideal S384x128 .bf16) (ix2 o a) = (V m c main_v18 : Vec Ideal S384x128 .bf16) (ix2 o a) := by
  unfold iblk
  exact read_p (V m c main_v18) t (ix2 o a)

theorem read_q (f : Vec Ideal S1x128 .f32) (t : Fin cfg0.N) (y : S1x128.Idx) :
    (((cfg0.win 4).blk t).view.read (Elt Ideal) f : Vec Ideal S1x128 .f32) y = f y :=
  congrArg f (show ((win0_4.blk t).view.emb y : S1x128.Idx) = y by blk_ext [idx t])

theorem iblk_q (c : Dev nD) (t : Fin cfg0.N) (a : Fin 128) :
    (iblk m c 4 t : Vec Ideal S1x128 .f32) (ix2 0 a) = (V m c main_v20 : Vec Ideal S1x128 .f32) (ix2 0 a) := by
  unfold iblk
  exact read_q (V m c main_v20) t (ix2 0 a)

/-- Output window 5's block at a point is 1024 rows of its image, from row `1024 h` at row block `h`. -/
theorem emb_out (t : Fin cfg0.N) (y : S1x1024x128.Idx) (h : 1024 * ((grid0.coords t) 1).val + (y 1).val < 4096) :
    ((win0_5.blk t).view.emb y : S4x4096x128.Idx)
      = ix3 ((grid0.coords t) 0) ⟨1024 * ((grid0.coords t) 1).val + (y 1).val, h⟩ (y 2) := by
  blk_ext [idx t]

/-- What a point writes is its block of the output array's function. -/
theorem point (c : Dev nD) (t : Fin cfg0.N) (r : Fin 1024) (a : Fin 128)
    (h : 1024 * ((grid0.coords t) 1).val + r.val < 4096) :
    (outsAt0 m c t : Vec Ideal S1x1024x128 .f32) (ix3 0 r a)
      = outArr (V m c main_v10) (V m c main_v13) (V m c main_v14) (V m c main_v18) (V m c main_v20)
          (ix3 ((grid0.coords t) 0) ⟨1024 * ((grid0.coords t) 1).val + r.val, h⟩ a) := by
  unfold outsAt0 outArr
  rw [out_A_apply]
  refine congrArg₂ (fun s u : EReal => s + u) (Finset.sum_congr rfl fun o _ => ?_) (iblk_q m c t a)
  refine congrArg₂ (fun s u : EReal => s * u) ?_ (iblk_p m c t o a)
  refine congrArg (fun s : EReal => max s 0) ?_
  refine congrArg₂ (fun s u : EReal => s + u) (Finset.sum_congr rfl fun k _ => ?_) (iblk_b m c t o)
  refine congrArg₂ (fun s u : EReal => s * u) ?_ (iblk_w m c t k o)
  have hk := k.isLt
  unfold bands patch
  rw [band_apply _ _ _ _ _ (by dsimp only; omega), iblk_x]
  exact congrArg (fun p => (V m c main_v10 : Vec Ideal S4x4224x1152 .bf16) (ix3 _ p _)) (Fin.ext (by
    show 1024 * ((grid0.coords t) 1).val + 64 * ((k : ℕ) / 1152) + r.val
      = 1024 * ((grid0.coords t) 1).val + r.val + 64 * ((k : ℕ) / 1152)
    omega))

/-- The output array after the run. -/
theorem final (c : Dev nD) : (dats m 0 c).arrAt 5 cfg0.N
    = outArr (V m c main_v10) (V m c main_v13) (V m c main_v14) (V m c main_v18) (V m c main_v20) := by
  refine (dats m 0 c).arrAt_eq_of_covers 5 _ (by decide +kernel) fun t hf y => ?_
  blk_simp
  rw [after0_5]
  have h1 : ((grid0.coords t) 1).val < 4 := ((grid0.coords t) 1).isLt
  have hr : ((y : S1x1024x128.Idx) 1).val < 1024 := ((y : S1x1024x128.Idx) 1).isLt
  have h : 1024 * ((grid0.coords t) 1).val + ((y : S1x1024x128.Idx) 1).val < 4096 := by omega
  have hy : (y : S1x1024x128.Idx) = ix3 0 ((y : S1x1024x128.Idx) 1) ((y : S1x1024x128.Idx) 2) :=
    funext fun a => match a with
      | ⟨0, _⟩ => Subsingleton.elim (α := Fin 1) _ _
      | ⟨1, _⟩ => rfl
      | ⟨2, _⟩ => rfl
  refine (congrArg (outsAt0 m c t) hy).trans ((point m c t _ _ h).trans ?_)
  exact congrArg _ (emb_out t y h).symm

end Cert.KernelIdeal.Conv

end
-- ==== Proof.Conv.Result.lean ====
module

public import proofs.«01_k».proof.Proof.Conv.Array

@[expose] public section

noncomputable section

/-! The kernel's result: its output array, cut to the nine anchors and flattened, is the logits. -/

namespace Cert.KernelIdeal.Conv

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The output array at pixel `p`, anchor `a`, is the logit of that anchor at the pixel's row and column. -/
theorem outArr_apply (c : Dev nD) (b : Fin 4) (p : Fin 4096) (a : Fin 128) (ha : (a : ℕ) < 9) :
    outArr (V m c main_v10) (V m c main_v13) (V m c main_v14) (V m c main_v18) (V m c main_v20) (ix3 b p a)
      = Cert.Conv.logit (fm m c) (wpre m c) (bpre m c) (wproj m c) (bproj m c) b ((p : ℕ) / 64) ((p : ℕ) % 64) ⟨a, ha⟩ := by
  unfold outArr Cert.Conv.logit
  refine congrArg₂ (fun s u : EReal => s + u) (Finset.sum_congr rfl fun o _ => ?_) (entry_q m c a ha)
  refine congrArg₂ (fun s u : EReal => s * u) ?_ (entry_p m c o a ha)
  refine congrArg (fun s : EReal => max s 0) ?_
  refine congrArg₂ (fun s u : EReal => s + u) ?_ (entry_b m c o)
  unfold Cert.Conv.conv Cert.Conv.tap
  refine Cert.Conv.sum_3456 _ _ fun ky kx ch hk => ?_
  have hp := p.isLt
  rw [entry_w]
  refine congrArg₂ (fun s u : EReal => s * u) ?_ ?_
  · unfold patch
    refine (entry_x m c b _ _).trans ?_
    have e1 : ((ky : ℕ) * 1152 + ((kx : ℕ) * 384 + (ch : ℕ))) / 1152 = ky := by omega
    have e2 : ((ky : ℕ) * 1152 + ((kx : ℕ) * 384 + (ch : ℕ))) % 1152 = (kx : ℕ) * 384 + (ch : ℕ) := by omega
    have e3 : ((kx : ℕ) * 384 + (ch : ℕ)) % 384 = ch := by omega
    have e4 : ((kx : ℕ) * 384 + (ch : ℕ)) / 384 = kx := by omega
    have e5 : ((p : ℕ) + 64 * (ky : ℕ)) / 64 = (p : ℕ) / 64 + ky := by omega
    have e6 : ((p : ℕ) + 64 * (ky : ℕ)) % 64 = (p : ℕ) % 64 := by omega
    simp only [e1, e2, e3, e4, ix3_0, ix3_1, e5, e6]
  · have e1 : ((ky : ℕ) * 1152 + ((kx : ℕ) * 384 + (ch : ℕ))) / 1152 = ky := by omega
    have e2 : ((ky : ℕ) * 1152 + ((kx : ℕ) * 384 + (ch : ℕ))) % 384 = ch := by omega
    have e3 : ((ky : ℕ) * 1152 + ((kx : ℕ) * 384 + (ch : ℕ))) / 384 % 3 = kx := by omega
    simp only [e1, e2, e3]

/-- The result buffer after the lines that follow the kernel. -/
theorem tail_eq (c : Dev nD) :
    (Pipeline.afterTail₀ cfgs (dats m) 0 (V0 m) [hostOps1] c main_v23 : Vec Ideal S4x36864 .f32)
      = Cert.Conv.logits (fm m c) (wpre m c) (bpre m c) (wproj m c) (bproj m c) := by
  unfold Pipeline.afterTail₀
  have h21 : Pipeline.withArrays (cfgs 0).spec c (V0 m c) (fun w => (dats m 0 c).arrAt w (cfgs 0).N) (Proc.tc.devRef main_v21)
      = outArr (V m c main_v10) (V m c main_v13) (V m c main_v14) (V m c main_v18) (V m c main_v20) :=
    (Pipeline.withArrays_arr (cfgs 0).spec winFacts0.arr_inj c (V0 m c) (fun w => (dats m 0 c).arrAt w (cfgs 0).N) 5).trans (final m c)
  generalize Pipeline.withArrays (cfgs 0).spec c (V0 m c) (fun w => (dats m 0 c).arrAt w (cfgs 0).N) = A at h21 ⊢
  dsimp only [List.flatten, List.append, hostOps1]
  after_reads_simp
  rw [h21]
  have key := outArr_apply m c
  generalize outArr (V m c main_v10) (V m c main_v13) (V m c main_v14) (V m c main_v18) (V m c main_v20) = G at key ⊢
  funext i
  idx_vars i
  pointwise
  exact key i0 _ _ (Nat.mod_lt _ (by decide))

/-- The run, read: the result is the logits of the arguments, and the arguments are unchanged. -/
theorem run : θ_run defs (onTc (τ := τ) (main (F := Ideal))) ⟨m, fun _ => 0, ρ⟩ fun r => ∀ c : Dev nD,
      r.2.mem ((c.tc : Thread nD τ).loc main_v23) = Cert.Conv.logits (fm m c) (wpre m c) (bpre m c) (wproj m c) (bproj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).2 main_v23 (Pipeline.mem_restRefs_of main_v23 (by decide) (by decide))).trans (tail_eq m c), h.2 c⟩)
    (θ_run_and (run_main m ρ) (unchanged m ρ))

end Cert.KernelIdeal.Conv

end
-- ==== Proof.Conv.Reference.lean ====
module

public import proofs.«01_k».proof.Proof.Gen.ReferenceIdeal.Run
public import proofs.«01_k».proof.Proof.Conv.Spec

@[expose] public section

noncomputable section

/-! The reference's result is the logits. -/

namespace Cert.ReferenceIdeal.Conv

open Cert.ReferenceIdeal Cert.ReferenceIdeal.Gen Idealize.ShloMosaic Idealize.ShloMosaic.TcCoe

variable (m : (ℓ : Loc nD τ sig) → Buf (Elt Ideal) ℓ) (c : Dev nD)

/-- The features. -/
abbrev fm : Vec Ideal S4x384x64x64 .f32 := m ((c.tc : Thread nD τ).loc main_arg0)
/-- The 3x3 kernel. -/
abbrev wpre : Vec Ideal S384x384x3x3 .f32 := m ((c.tc : Thread nD τ).loc main_arg1)
/-- The convolution's bias. -/
abbrev bpre : Vec Ideal S384 .f32 := m ((c.tc : Thread nD τ).loc main_arg2)
/-- The projection. -/
abbrev wproj : Vec Ideal S9x384x1x1 .f32 := m ((c.tc : Thread nD τ).loc main_arg3)
/-- The projection's bias. -/
abbrev bproj : Vec Ideal S9 .f32 := m ((c.tc : Thread nD τ).loc main_arg4)

/-- An integer zero read as a float is zero. -/
theorem sitofp_zero : (FloatOps.sitofp FTy.f32 (0#32) : Ideal .f32) = (0 : EReal) := by
  show (((0#32 : BitVec 32).toInt : ℝ) : EReal) = 0
  simp

/-- The bordered features at an entry. -/
theorem bordered_apply (f : Vec Ideal S4x384x64x64 .f32) (b : Fin 4) (ch : Fin 384) (y x : Fin 66) :
    (pad S4x384x66x66 ![0, 0, 1, 1] ![0, 0, 1, 1] ![0, 0, 0, 0] f (sitofp (F := Ideal) .f32 (constantI S_ 32 0#32))
      pads_S4x384x64x64_S4x384x66x66_000_000_110_110 h_S_ : Vec Ideal S4x384x66x66 .f32) (ix4 b ch y x)
      = Cert.Conv.padAt f b ch y x := by
  pointwise
  unfold Cert.Conv.padAt
  simp only [sitofp_zero]

/-- One kernel position's product in the reference: the weights come first there, and the product of two extended reals
    does not depend on the order. -/
theorem tap_eq (P : Vec Ideal S4x384x66x66 .f32) (f : Vec Ideal S4x384x64x64 .f32) (w : Vec Ideal S384x384x3x3 .f32)
    (hP : ∀ b ch y x, P (ix4 b ch y x) = Cert.Conv.padAt f b ch y x) (b : Fin 4) (o : Fin 384) (y x : ℕ) (ky kx : Fin 3)
    (v u : Fin 66) (hv : (v : ℕ) = y + ky) (hu : (u : ℕ) = x + kx) :
    ∑ ch : Fin 384, w (ix4 o ch ky kx) * P (ix4 b ch v u) = Cert.Conv.tap f w b o y x ky kx := by
  unfold Cert.Conv.tap
  refine Finset.sum_congr rfl fun ch _ => ?_
  rw [hP, hv, hu, mul_comm]

/-- The reference's result is the logits of its arguments. -/
theorem result_eq : (Value.res_out0 m c : Vec Ideal S4x36864 .f32)
    = Cert.Conv.logits (fm m c) (wpre m c) (bpre m c) (wproj m c) (bproj m c) := by
  have key := bordered_apply (fm m c)
  unfold Value.res_out0 Value.res_main_v68
  generalize pad S4x384x66x66 ![0, 0, 1, 1] ![0, 0, 1, 1] ![0, 0, 0, 0] (m ((c.tc : Thread nD τ).loc main_arg0)) (sitofp (F := Ideal) .f32 (constantI S_ 32 0#32)) pads_S4x384x64x64_S4x384x66x66_000_000_110_110 h_S_ = P at key ⊢
  funext i
  idx_vars i
  pointwise
  refine congrArg₂ (fun s u : EReal => s + u) (Finset.sum_congr rfl fun o _ => (mul_comm _ _).trans ?_) rfl
  refine congrArg (fun s : EReal => max (s + bpre m c (ix1 o)) 0 * wproj m c (ix4 ⟨(i1 : ℕ) % 9, Nat.mod_lt _ (by decide)⟩ o 0 0)) ?_
  have h := fun ky kx => tap_eq P (fm m c) (wpre m c) key i0 o ((i1 : ℕ) / 9 / 64) ((i1 : ℕ) / 9 % 64) ky kx
  let add := fun s u : EReal => s + u
  refine Eq.trans (congrArg₂ add
    (congrArg₂ add
    (congrArg₂ add
    (congrArg₂ add
    (congrArg₂ add
    (congrArg₂ add
    (congrArg₂ add
    (congrArg₂ add
    (h 0 0 _ _ (by show _ = _ + 0; dsimp only; omega) (by show _ = _ + 0; dsimp only; omega))
    (h 0 1 _ _ (by show _ = _ + 0; dsimp only; omega) (by show _ = _ + 1; dsimp only; omega)))
    (h 0 2 _ _ (by show _ = _ + 0; dsimp only; omega) (by show _ = _ + 2; dsimp only; omega)))
    (h 1 0 _ _ (by show _ = _ + 1; dsimp only; omega) (by show _ = _ + 0; dsimp only; omega)))
    (h 1 1 _ _ (by show _ = _ + 1; dsimp only; omega) (by show _ = _ + 1; dsimp only; omega)))
    (h 1 2 _ _ (by show _ = _ + 1; dsimp only; omega) (by show _ = _ + 2; dsimp only; omega)))
    (h 2 0 _ _ (by show _ = _ + 2; dsimp only; omega) (by show _ = _ + 0; dsimp only; omega)))
    (h 2 1 _ _ (by show _ = _ + 2; dsimp only; omega) (by show _ = _ + 1; dsimp only; omega)))
    (h 2 2 _ _ (by show _ = _ + 2; dsimp only; omega) (by show _ = _ + 2; dsimp only; omega))) ?_
  show _ = Cert.Conv.conv (fm m c) (wpre m c) i0 o ((i1 : ℕ) / 9 / 64) ((i1 : ℕ) / 9 % 64)
  unfold Cert.Conv.conv
  simp only [add, Fin.sum_univ_three, add_assoc]

end Cert.ReferenceIdeal.Conv

end
-- ==== Proof.TopK.Steps.lean ====
module

public import proofs.«01_k».proof.Proof.Gen.Kernel2Ideal.Skeleton
public import Idealize.ShloMosaic.Lib.Exec.Context

@[expose] public section

noncomputable section

/-! What the selection body computes from its block, written as a few repeated steps: the search for a threshold, the
    sixteen extractions per lane, and the three hundred selections. -/

namespace Cert.Kernel2Ideal.TopK

open Cert.Kernel2Ideal Cert.Kernel2Ideal.Gen Idealize.ShloMosaic Idealize.SL.Sem

variable {F : FTy → Type} [FloatOps F]

/-- The word larger than every place. -/
abbrev big : BitVec 32 := 1073741824#32

/-- The block's probabilities. -/
def probs (x : Vec F S1x288x128 .f32) : FVec F S288x128 .f32 := logistic (shapeCast S288x128 x shapeCasts_S1x288x128_S288x128)

/-- The row of each entry. -/
def rows : IVec S288x128 32 := iota .tc S288x128 32 [0] iota_S288x128_d0_w32

/-- The place of each entry, row by row. -/
def places : IVec S288x128 32 := addi (muli rows (broadcast S288x128 128#32)) (iota .tc S288x128 32 [1] iota_S288x128_d1_w32)

/-- The float whose word is `t`. -/
def wordValue (t : BitVec 32) : F .f32 :=
  Scalar.mulf
    (Scalar.sitofp .f32 (Scalar.addi (Scalar.andi t 8388607#32)
      (Scalar.select (Scalar.cmpi .sgt (Scalar.shrsi t 23#32) 0#32) 8388608#32 0#32)))
    (Scalar.exp2 (Scalar.sitofp .f32 (Scalar.subi (Scalar.maxsi (Scalar.shrsi t 23#32) 1#32) 150#32)))

/-- The entries that reach the float whose word is `t`. -/
def reach (v : FVec F S288x128 .f32) (t : BitVec 32) : IVec S288x128 1 := cmpf .oge v (broadcast S288x128 (wordValue t))

/-- How many reach it. -/
def count (v : FVec F S288x128 .f32) (t : BitVec 32) : BitVec 32 :=
  extractAt ![0, 0, 0] (shapeCast S1x1x1 (multiReductionI .add [1, 2] S1
    (shapeCast S1x288x128 (extui 32 (reach v t) natLt_1_32) shapeCasts_S288x128_S1x288x128) 0#32 reduces_S1x288x128_S1 rfl)
    shapeCasts_S1_S1x1x1) inpos_S1x1x1_p0_0_0

/-- One step of the search: the next lower bit is kept when at least 300 entries still reach the word. -/
def searchStep (v : FVec F S288x128 .f32) (k : Fin k0_t1_loop.trips) (t : BitVec 32) : BitVec 32 :=
  Scalar.select (Scalar.cmpi .sge (count v (Scalar.ori t (Scalar.shli 1#32 (Scalar.subi 29#32 (Scf.iv 0#32 1#32 k))))) 300#32)
    (Scalar.ori t (Scalar.shli 1#32 (Scalar.subi 29#32 (Scf.iv 0#32 1#32 k)))) t

/-- The word the search ends at. -/
def search (v : FVec F S288x128 .f32) : BitVec 32 := Scf.fold (searchStep v) 0#32

/-- The first row of each lane that is in `m`. -/
def first (m : IVec S288x128 1) : IVec S128 32 :=
  multiReductionI .minsi [0] S128 (select m rows (broadcast S288x128 big)) 2147483647#32 reduces_S288x128_S128 rfl

/-- The entries at those rows. -/
def hit (m : IVec S288x128 1) : IVec S288x128 1 :=
  cmpi .eq rows (broadcastTo S288x128 (shapeCast S1x128 (first m) shapeCasts_S128_S1x128) broadcasts_S1x128_S288x128)

/-- The lanes with an entry in `m`. -/
def some' (m : IVec S288x128 1) : IVec S128 1 := cmpi .slt (first m) (broadcast S128 big)

/-- What is left of `m` without those entries. -/
def rest (m : IVec S288x128 1) : IVec S288x128 1 := andi m (xori (hit m) (constantI S288x128 1 1#1))

/-- `m` without its first `k` entries of each lane. -/
def restAt (m : IVec S288x128 1) : ℕ → IVec S288x128 1
  | 0 => m
  | k + 1 => rest (restAt m k)

/-- The probability of each lane's first entry, summed out of its lane. -/
def hitSum (v : FVec F S288x128 .f32) (m : IVec S288x128 1) : FVec F S128 .f32 :=
  multiReduction .add [0] S128 (select (hit m) v (broadcast S288x128 (Scalar.ofBits .f32 0x00000000#32))) 0x00000000#32
    reduces_S288x128_S128 (.inl rfl) rfl

/-- The probabilities extracted: each lane's first, or -1. -/
def valRow (v : FVec F S288x128 .f32) (m : IVec S288x128 1) : FVec F S1x128 .f32 :=
  shapeCast S1x128 (select (some' m) (hitSum v m) (broadcast S128 (Scalar.ofBits .f32 0xBF800000#32))) shapeCasts_S128_S1x128

/-- The places extracted, before they are made a row: each lane's first, or the large word. -/
def idCol (m : IVec S288x128 1) : IVec S128 32 :=
  select (some' m) (multiReductionI .add [0] S128 (select (andi (hit m) m) places (broadcast S288x128 0#32)) 0#32
    reduces_S288x128_S128 rfl) (broadcast S128 big)

/-- The places extracted. -/
def idRow (m : IVec S288x128 1) : IVec S1x128 32 := shapeCast S1x128 (idCol m) shapeCasts_S128_S1x128

/-- The sixteen extractions' probabilities. -/
def vals (v : FVec F S288x128 .f32) (m : IVec S288x128 1) : FVec F S16x128 .f32 :=
  concatenate S16x128 0 [⟨S1x128, valRow v (restAt m 0)⟩, ⟨S1x128, valRow v (restAt m 1)⟩, ⟨S1x128, valRow v (restAt m 2)⟩,
    ⟨S1x128, valRow v (restAt m 3)⟩, ⟨S1x128, valRow v (restAt m 4)⟩, ⟨S1x128, valRow v (restAt m 5)⟩,
    ⟨S1x128, valRow v (restAt m 6)⟩, ⟨S1x128, valRow v (restAt m 7)⟩, ⟨S1x128, valRow v (restAt m 8)⟩,
    ⟨S1x128, valRow v (restAt m 9)⟩, ⟨S1x128, valRow v (restAt m 10)⟩, ⟨S1x128, valRow v (restAt m 11)⟩,
    ⟨S1x128, valRow v (restAt m 12)⟩, ⟨S1x128, valRow v (restAt m 13)⟩, ⟨S1x128, valRow v (restAt m 14)⟩,
    ⟨S1x128, valRow v (restAt m 15)⟩]
    concatenates_S1x128_S1x128_S1x128_S1x128_S1x128_S1x128_S1x128_S1x128_S1x128_S1x128_S1x128_S1x128_S1x128_S1x128_S1x128_S1x128_S16x128_d0

/-- The sixteen extractions' places. -/
def ids (m : IVec S288x128 1) : IVec S16x128 32 :=
  concatenate S16x128 0 [⟨S1x128, idRow (restAt m 0)⟩, ⟨S1x128, idRow (restAt m 1)⟩, ⟨S1x128, idRow (restAt m 2)⟩,
    ⟨S1x128, idRow (restAt m 3)⟩, ⟨S1x128, idRow (restAt m 4)⟩, ⟨S1x128, idRow (restAt m 5)⟩,
    ⟨S1x128, idRow (restAt m 6)⟩, ⟨S1x128, idRow (restAt m 7)⟩, ⟨S1x128, idRow (restAt m 8)⟩,
    ⟨S1x128, idRow (restAt m 9)⟩, ⟨S1x128, idRow (restAt m 10)⟩, ⟨S1x128, idRow (restAt m 11)⟩,
    ⟨S1x128, idRow (restAt m 12)⟩, ⟨S1x128, idRow (restAt m 13)⟩, ⟨S1x128, idRow (restAt m 14)⟩,
    ⟨S1x128, idRow (restAt m 15)⟩]
    concatenates_S1x128_S1x128_S1x128_S1x128_S1x128_S1x128_S1x128_S1x128_S1x128_S1x128_S1x128_S1x128_S1x128_S1x128_S1x128_S1x128_S16x128_d0

/-- The largest probability left. -/
def top (c : FVec F S16x128 .f32) : F .f32 :=
  extractAt ![0, 0, 0] (shapeCast S1x1x1 (multiReduction .maximumf [1, 2] S1
    (shapeCast S1x16x128 c shapeCasts_S16x128_S1x16x128) 0xFF800000#32 reduces_S1x16x128_S1 (.inl rfl) rfl)
    shapeCasts_S1_S1x1x1) inpos_S1x1x1_p0_0_0

/-- The smallest place that has it. -/
def pick (d : IVec S16x128 32) (c : FVec F S16x128 .f32) : BitVec 32 :=
  extractAt ![0, 0, 0] (shapeCast S1x1x1 (multiReductionI .minsi [1, 2] S1
    (shapeCast S1x16x128 (select (cmpf .oeq c (broadcast S16x128 (top c))) d (broadcast S16x128 big))
      shapeCasts_S16x128_S1x16x128) 2147483647#32 reduces_S1x16x128_S1 rfl)
    shapeCasts_S1_S1x1x1) inpos_S1x1x1_p0_0_0

/-- One selection: the place is written at the trip's column and its probability replaced by -1. -/
def selectStep (d : IVec S16x128 32) (k : Fin k0_t2_loop.trips) (s : FVec F S16x128 .f32 × IVec S1x512 32) :
    FVec F S16x128 .f32 × IVec S1x512 32 :=
  (select (cmpi .eq d (broadcast S16x128 (pick d s.1))) (broadcast S16x128 (Scalar.ofBits .f32 0xBF800000#32)) s.1,
   select (cmpi .eq (iota .tc S1x512 32 [1] iota_S1x512_d1_w32) (broadcast S1x512 (Scf.iv 0#32 1#32 k)))
     (broadcast S1x512 (pick d s.1)) s.2)

/-- All the selections. -/
def selections (c : FVec F S16x128 .f32) (d : IVec S16x128 32) : FVec F S16x128 .f32 × IVec S1x512 32 :=
  Scf.fold (selectStep d) (c, broadcast S1x512 0#32)

/-- The places the body of image `b` writes, the image's offset added. -/
def placed (b : BitVec 32) (o : IVec S1x512 32) : IVec S1x1x512 32 :=
  shapeCast S1x1x512 (addi o (broadcast S1x512 (Scalar.muli b 36864#32))) shapeCasts_S1x512_S1x1x512

/-- What the body writes, from its block. -/
def body (b : BitVec 32) (x : Vec F S1x288x128 .f32) : IVec S1x1x512 32 :=
  let m := reach (probs x) (search (probs x))
  placed b (selections (vals (probs x) m) (ids m)).2

/-! ## The printed body is these steps -/

variable (i : grid0.Coords) (a1 : Memref sig .tc .vmem S1x288x128 .f32) (h1 : a1.IsWhole)
  (a2 : Memref sig .tc .vmem S1x1x512 .i32) (h2 : a2.IsWhole) (v : FVec F S288x128 .f32) (m : IVec S288x128 1)

theorem part2_eq : k0_part2 i a1 h1 a2 h2 v rows places m (hit m) (some' m)
    = .ret ⟨idRow m, valRow v (rest m), idRow (rest m), rest (rest m), hit (rest (rest m)), some' (rest (rest m)),
      select (hit (rest (rest m))) v (broadcast S288x128 (Scalar.ofBits .f32 0x00000000#32))⟩ := rfl

theorem part3_eq : k0_part3 i a1 h1 a2 h2 v rows places m (hit m) (some' m)
      (select (hit m) v (broadcast S288x128 (Scalar.ofBits .f32 0x00000000#32)))
    = .ret ⟨valRow v m, idRow m, valRow v (rest m), idRow (rest m), rest (rest m), first (rest (rest m)),
      hit (rest (rest m))⟩ := rfl

theorem part4_eq : k0_part4 i a1 h1 a2 h2 v rows places m (first m) (hit m)
    = .ret ⟨valRow v m, idRow m, valRow v (rest m), idRow (rest m), rest (rest m), broadcast S288x128 big⟩ := rfl

theorem part5_eq : k0_part5 i a1 h1 a2 h2 v rows places m (broadcast S288x128 big)
    = .ret ⟨valRow v m, idRow m, rest m, hit (rest m), valRow v (rest m), idCol (rest m)⟩ := rfl

theorem part6_eq : k0_part6 i a1 h1 a2 h2 v rows places m (hit m) (idCol m)
    = .ret ⟨idRow m, valRow v (rest m), idRow (rest m), rest (rest m), hit (rest (rest m)), some' (rest (rest m)),
      valRow v (rest (rest m)), andi (hit (rest (rest m))) (rest (rest m)), broadcast S288x128 0#32⟩ := rfl

theorem part7_eq : k0_part7 i a1 h1 a2 h2 v rows places m (hit m) (some' m) (andi (hit m) m) (broadcast S288x128 0#32)
    = .ret ⟨idRow m, valRow v (rest m), idRow (rest m), rest (rest m), hit (rest (rest m)), some' (rest (rest m)),
      hitSum v (rest (rest m)), Scalar.ofBits .f32 0xBF800000#32⟩ := rfl

theorem part8_eq : k0_part8 i a1 h1 a2 h2 v rows places m (hit m) (some' m) (hitSum v m) (Scalar.ofBits .f32 0xBF800000#32)
    = .ret ⟨valRow v m, idRow m, valRow v (rest m), idRow (rest m), rest (rest m), hit (rest (rest m)),
      some' (rest (rest m))⟩ := rfl

theorem part9_eq : k0_part9 i a1 h1 a2 h2 v rows places m (hit m) (some' m)
    = .ret ⟨valRow v m, idRow m, valRow v (rest m), idRow (rest m), rest (rest m), first (rest (rest m))⟩ := rfl

/-- The word of image `i`. -/
abbrev image : BitVec 32 := BitVec.ofNat 32 (i 0).val

theorem part1_eq : k0_part1 (F := F) i a1 h1 a2 h2
    = Prog.lift (.load a1 (Rect.unit (s := S1x288x128) ![0, 0, 0] S1x288x128.size
        inb_S1x288x128_S1x288x128_0_0_0).toLoadRect (View.loadsAt_vmem h_S1x288x128)) >>= fun x =>
      .ret ⟨image i, probs x, rows, places, reach (probs x) (search (probs x)), hit (reach (probs x) (search (probs x))),
        some' (reach (probs x) (search (probs x))), valRow (probs x) (reach (probs x) (search (probs x)))⟩ := by
  unfold k0_part1
  refine congrArg (Prog.lift _ >>= ·) (funext fun x => ?_)
  exact Scf.for_pure_bind _ _ _ k0_t1_ok 0#32 _ (searchStep (probs x)) (fun _ _ => rfl) _

theorem ret_then {E : Type → Type} {α β : Type} (a : α) (k : α → Prog E β) : (Prog.ret a >>= k) = k a := rfl

set_option maxRecDepth 65536 in
set_option maxHeartbeats 1000000 in
/-- The printed body loads its block, and writes `body` of it. -/
theorem topk_body_eq : cc0__topk_body (F := F) i a1 h1 a2 h2
    = Prog.lift (.load a1 (Rect.unit (s := S1x288x128) ![0, 0, 0] S1x288x128.size
        inb_S1x288x128_S1x288x128_0_0_0).toLoadRect (View.loadsAt_vmem h_S1x288x128)) >>= fun x =>
      Prog.lift (.load a2 (Rect.unit (s := S1x1x512) ![0, 0, 0] S1x1x512.size
        inb_S1x1x512_S1x1x512_0_0_0).toLoadRect (View.loadsAt_vmem h_S1x1x512)) >>= fun _ =>
      Prog.lift (.store a2 (Rect.unit (s := S1x1x512) ![0, 0, 0] S1x1x512.size inb_S1x1x512_S1x1x512_0_0_0)
        (body (image i) x) Finset.univ (View.stores_vmem_bits_univ h_S1x1x512 rfl) (.inl rfl)) >>= fun _ =>
      .ret ⟨⟩ := by
  unfold cc0__topk_body
  rw [part1_eq, bind_assoc]
  refine congrArg (Prog.lift _ >>= ·) (funext fun x => ?_)
  generalize hm : reach (probs x) (search (probs x)) = m
  generalize hv : probs x = v at hm
  unfold body
  rw [hv, hm]
  simp only [ret_then, part2_eq, part3_eq, part4_eq, part5_eq, part6_eq, part7_eq, part8_eq, part9_eq]
  exact Scf.for_pure_bind _ _ _ k0_t2_ok _ _ (selectStep (ids m)) (fun _ _ => rfl) _

end Cert.Kernel2Ideal.TopK
-- ==== Proof.TopK.BitsBody.lean ====
module

public import proofs.«01_k».proof.Proof.Gen.Kernel2.Skeleton
public import proofs.«01_k».proof.Proof.TopK.Steps

@[expose] public section

noncomputable section

/-! The selection body as printed for the hardware's floats is the steps of Proof/TopK/Steps.lean too. -/

namespace Cert.Kernel2.TopK

open Cert.Kernel2 Cert.Kernel2.Gen Idealize.ShloMosaic Idealize.SL.Sem
open Cert.Kernel2Ideal.TopK (probs rows places reach search searchStep first hit some' rest hitSum valRow idCol idRow vals ids big
  selectStep selections placed body ret_then)

variable {F : FTy → Type} [FloatOps F]

/-! ## The printed body is these steps -/

variable (i : grid0.Coords) (a1 : Memref sig .tc .vmem S1x288x128 .f32) (h1 : a1.IsWhole)
  (a2 : Memref sig .tc .vmem S1x1x512 .i32) (h2 : a2.IsWhole) (v : FVec F S288x128 .f32) (m : IVec S288x128 1)

theorem part2_eq : k0_part2 i a1 h1 a2 h2 v rows places m (hit m) (some' m)
    = .ret ⟨idRow m, valRow v (rest m), idRow (rest m), rest (rest m), hit (rest (rest m)), some' (rest (rest m)),
      select (hit (rest (rest m))) v (broadcast S288x128 (Scalar.ofBits .f32 0x00000000#32))⟩ := rfl

theorem part3_eq : k0_part3 i a1 h1 a2 h2 v rows places m (hit m) (some' m)
      (select (hit m) v (broadcast S288x128 (Scalar.ofBits .f32 0x00000000#32)))
    = .ret ⟨valRow v m, idRow m, valRow v (rest m), idRow (rest m), rest (rest m), first (rest (rest m)),
      hit (rest (rest m))⟩ := rfl

theorem part4_eq : k0_part4 i a1 h1 a2 h2 v rows places m (first m) (hit m)
    = .ret ⟨valRow v m, idRow m, valRow v (rest m), idRow (rest m), rest (rest m), broadcast S288x128 big⟩ := rfl

theorem part5_eq : k0_part5 i a1 h1 a2 h2 v rows places m (broadcast S288x128 big)
    = .ret ⟨valRow v m, idRow m, rest m, hit (rest m), valRow v (rest m), idCol (rest m)⟩ := rfl

theorem part6_eq : k0_part6 i a1 h1 a2 h2 v rows places m (hit m) (idCol m)
    = .ret ⟨idRow m, valRow v (rest m), idRow (rest m), rest (rest m), hit (rest (rest m)), some' (rest (rest m)),
      valRow v (rest (rest m)), andi (hit (rest (rest m))) (rest (rest m)), broadcast S288x128 0#32⟩ := rfl

theorem part7_eq : k0_part7 i a1 h1 a2 h2 v rows places m (hit m) (some' m) (andi (hit m) m) (broadcast S288x128 0#32)
    = .ret ⟨idRow m, valRow v (rest m), idRow (rest m), rest (rest m), hit (rest (rest m)), some' (rest (rest m)),
      hitSum v (rest (rest m)), Scalar.ofBits .f32 0xBF800000#32⟩ := rfl

theorem part8_eq : k0_part8 i a1 h1 a2 h2 v rows places m (hit m) (some' m) (hitSum v m) (Scalar.ofBits .f32 0xBF800000#32)
    = .ret ⟨valRow v m, idRow m, valRow v (rest m), idRow (rest m), rest (rest m), hit (rest (rest m)),
      some' (rest (rest m))⟩ := rfl

theorem part9_eq : k0_part9 i a1 h1 a2 h2 v rows places m (hit m) (some' m)
    = .ret ⟨valRow v m, idRow m, valRow v (rest m), idRow (rest m), rest (rest m), first (rest (rest m))⟩ := rfl

/-- The word of image `i`. -/
abbrev image : BitVec 32 := BitVec.ofNat 32 (i 0).val

theorem part1_eq : k0_part1 (F := F) i a1 h1 a2 h2
    = Prog.lift (.load a1 (Rect.unit (s := S1x288x128) ![0, 0, 0] S1x288x128.size
        inb_S1x288x128_S1x288x128_0_0_0).toLoadRect (View.loadsAt_vmem h_S1x288x128)) >>= fun x =>
      .ret ⟨image i, probs x, rows, places, reach (probs x) (search (probs x)), hit (reach (probs x) (search (probs x))),
        some' (reach (probs x) (search (probs x))), valRow (probs x) (reach (probs x) (search (probs x)))⟩ := by
  unfold k0_part1
  refine congrArg (Prog.lift _ >>= ·) (funext fun x => ?_)
  exact Scf.for_pure_bind _ _ _ k0_t1_ok 0#32 _ (searchStep (probs x)) (fun _ _ => rfl) _

set_option maxRecDepth 65536 in
set_option maxHeartbeats 1000000 in
/-- The printed body loads its block, and writes `body` of it. -/
theorem topk_body_eq : cc0__topk_body (F := F) i a1 h1 a2 h2
    = Prog.lift (.load a1 (Rect.unit (s := S1x288x128) ![0, 0, 0] S1x288x128.size
        inb_S1x288x128_S1x288x128_0_0_0).toLoadRect (View.loadsAt_vmem h_S1x288x128)) >>= fun x =>
      Prog.lift (.load a2 (Rect.unit (s := S1x1x512) ![0, 0, 0] S1x1x512.size
        inb_S1x1x512_S1x1x512_0_0_0).toLoadRect (View.loadsAt_vmem h_S1x1x512)) >>= fun _ =>
      Prog.lift (.store a2 (Rect.unit (s := S1x1x512) ![0, 0, 0] S1x1x512.size inb_S1x1x512_S1x1x512_0_0_0)
        (body (image i) x) Finset.univ (View.stores_vmem_bits_univ h_S1x1x512 rfl) (.inl rfl)) >>= fun _ =>
      .ret ⟨⟩ := by
  unfold cc0__topk_body
  rw [part1_eq, bind_assoc]
  refine congrArg (Prog.lift _ >>= ·) (funext fun x => ?_)
  generalize hm : reach (probs x) (search (probs x)) = m
  generalize hv : probs x = v at hm
  unfold body
  rw [hv, hm]
  simp only [ret_then, part2_eq, part3_eq, part4_eq, part5_eq, part6_eq, part7_eq, part8_eq, part9_eq]
  exact Scf.for_pure_bind _ _ _ k0_t2_ok _ _ (selectStep (ids m)) (fun _ _ => rfl) _

end Cert.Kernel2.TopK
-- ==== Proof.TopK.Frame.lean ====
module

public import proofs.«01_k».proof.Proof.Gen.Kernel2Ideal.Launch
public import proofs.«01_k».proof.Proof.Gen.Kernel2Ideal.Points
public import proofs.«01_k».proof.Proof.TopK.Steps
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

/-! The run of the selection call: its arrays before and after, the body at every grid point, and the frame. -/

namespace Cert.Kernel2Ideal.TopK

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the kernel -/

/-- The buffers of core `c` when the kernel starts: after the host operations before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is the host operations before the kernel, the kernel, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The host operations after the kernel touch only arrays of the kernel and buffers that live outside it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the kernel writes `main_arg0`: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the kernel writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the kernel finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every point the input's staging buffer holds the point's block, whether or not it was fetched at that point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run of the kernel and of the lines after it leaves the argument unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body's accesses -/

abbrev r0_0 : Rect S1x288x128 := Rect.unit (s := S1x288x128) ![0, 0, 0] S1x288x128.size inb_S1x288x128_S1x288x128_0_0_0
abbrev r0_1 : Rect S1x1x512 := Rect.unit (s := S1x1x512) ![0, 0, 0] S1x1x512.size inb_S1x1x512_S1x1x512_0_0_0

/-! ## What the body leaves in its output window's buffer -/

/-- Window 1's staging buffer after the body at point `i`, from its input's block. -/
def out0_1 (i : grid0.Coords) (x0 : Vec F S1x288x128 .f32) : Vec F S1x1x512 .i32 :=
  View.canon [⟨r0_1, body (image i) (View.ld x0 r0_0)⟩]

/-- The body's one store fills the buffer. -/
theorem cover0_1 (p0 : Vec F S1x1x512 .i32) (y : S1x1x512.Idx) :
    ∃ pc ∈ ([⟨r0_1, p0⟩] : List (View.Piece (Elt F) S1x1x512 .i32)), y ∈ pc.1.set :=
  View.cover_of_tiled [⟨r0_1, p0⟩] S1x1x512.size (by rfl) y

/-! ## The body's triple -/

set_option maxHeartbeats 1000000 in
/-- The body, its input's memref at `x0` and its output's at anything, runs to the continuation that holds the input's
    as it was and the output's at `out0_1` of it. -/
theorem sound_kernel (c : Dev nD) (E : Set ℕ) (i : grid0.Coords) (arg1 : Memref sig .tc .vmem S1x288x128 .f32) (harg1 : arg1.IsWhole) (arg2 : Memref sig .tc .vmem S1x1x512 .i32) (harg2 : arg2.IsWhole)
    (x0 : Vec F S1x288x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 i x0)) -∗ K ⟨⟩))
      ⊢ wp frame (wpE (defs₀ (F := F)) Variants.none c none) E (cc0__topk_body i arg1 harg1 arg2 harg2) K := by
  rw [topk_body_eq]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- What is claimed of the staging buffers: after the body at a point the input's holds its block and the output's what the
    body computes from it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (grid0.coords t) (iblk m c 0 t)
  Φ _ := Pipeline.ΦA spec0 c
  q _ := fullShare
  owed _ := 0

/-- The arrays are those the kernel starts with. -/
theorem A_eq (c : Dev nD) (w : Fin cfg0.W) : (dats m 0 c).A w = V m c (Pipeline.arrRef spec0 w) := by
  dsimp only [dats]

/-- What the body leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = out0_1 (grid0.coords t) (iblk m c 0 t) := by dsimp only [dats]

/-- The input's staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body does this at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body called at a point is the printed one, at that point's buffers. -/
theorem defs₀_row (t : Fin cfg0.N) :
    defs₀ (F := F) .tc cfg0.body (cfg0.bodyArgs t (cfg0.slots t)) = bodyAt0 t := by
  unfold defs₀; rw [Defs.onTc_tc]

/-- The same in the form that the run takes. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The program runs, every array and buffer ends as computed here, and every semaphore ends at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the semaphores. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The argument ends unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Kernel2Ideal.TopK

end
-- ==== Proof.TopK.Fold.lean ====
module

public import Idealize.ShloMosaic.PureOps.Float
public import Idealize.ShloMosaic.PureOps.Reduce
public import Mathlib.Data.Finset.Fold
public import Mathlib.Data.Finset.Lattice.Fold
public import Mathlib.Algebra.BigOperators.Group.Finset.Basic

@[expose] public section

noncomputable section

/-! Folds of signed minimum, word addition and maximum over a finite set. -/

namespace Cert.TopK

open Idealize.ShloMosaic

theorem toInt_minsi (a b : BitVec 32) : (IntOp.minsi a b).toInt = min a.toInt b.toInt := by
  unfold IntOp.minsi
  split
  · rename_i h; rw [BitVec.slt_iff_toInt_lt] at h; omega
  · rename_i h; rw [BitVec.slt_iff_toInt_lt] at h; omega

theorem minsi_cases (a b : BitVec 32) : IntOp.minsi a b = a ∨ IntOp.minsi a b = b := by
  unfold IntOp.minsi
  split
  · exact .inl rfl
  · exact .inr rfl

variable {ι : Type} [DecidableEq ι]

/-- A fold of signed minimum is below each word folded, and is one of them or the word it starts from. -/
theorem fold_minsi (s : Finset ι) (b : BitVec 32) (f : ι → BitVec 32) :
    (∀ i ∈ s, (s.fold IntOp.minsi b f).toInt ≤ (f i).toInt)
      ∧ (s.fold IntOp.minsi b f = b ∨ ∃ i ∈ s, s.fold IntOp.minsi b f = f i) := by
  induction s using Finset.induction_on with
  | empty => exact ⟨fun i hi => absurd hi (Finset.notMem_empty i), .inl rfl⟩
  | insert a s ha ih =>
    obtain ⟨ih1, ih2⟩ := ih
    rw [Finset.fold_insert ha]
    constructor
    · intro i hi
      rw [toInt_minsi]
      rcases Finset.mem_insert.1 hi with rfl | hi
      · omega
      · have := ih1 i hi; omega
    · rcases minsi_cases (f a) (s.fold IntOp.minsi b f) with h | h
      · exact .inr ⟨a, Finset.mem_insert_self a s, h⟩
      · rw [h]
        rcases ih2 with h2 | ⟨i, hi, h2⟩
        · exact .inl h2
        · exact .inr ⟨i, Finset.mem_insert_of_mem hi, h2⟩

/-- A fold of word addition with at most one word that is not zero. -/
theorem fold_addi_single (s : Finset ι) (a : ι) (f : ι → BitVec 32) (ha : a ∈ s) (h : ∀ i, i ≠ a → f i = 0#32) :
    s.fold IntOp.addi 0#32 f = f a := by
  have h0 : ∀ t : Finset ι, a ∉ t → t.fold IntOp.addi 0#32 f = 0#32 := by
    intro t
    induction t using Finset.induction_on with
    | empty => intro _; rfl
    | insert i t hi ih =>
      intro ht
      rw [Finset.fold_insert hi, ih fun hh => ht (Finset.mem_insert_of_mem hh),
        h i fun e => ht (e ▸ Finset.mem_insert_self i t)]
      rfl
  rw [← Finset.insert_erase ha, Finset.fold_insert (Finset.notMem_erase a s), h0 _ (Finset.notMem_erase a s)]
  exact BitVec.add_zero (f a)

/-- A fold of word addition over bits counts them. -/
theorem fold_addi_count (s : Finset ι) (f : ι → BitVec 1) :
    s.fold IntOp.addi 0#32 (fun i => BitVec.setWidth 32 (f i)) = BitVec.ofNat 32 (s.filter fun i => f i = 1#1).card := by
  induction s using Finset.induction_on with
  | empty => rfl
  | insert a s ha ih =>
    rw [Finset.fold_insert ha, ih, Finset.filter_insert]
    rcases (show f a = 0#1 ∨ f a = 1#1 by generalize f a = w; revert w; decide) with e | e
    · rw [e, if_neg (by decide)]
      exact BitVec.zero_add _
    · rw [e, if_pos rfl, Finset.card_insert_of_notMem fun hh => ha (Finset.mem_filter.1 hh).1, Nat.add_comm,
        BitVec.ofNat_add]
      rfl

/-- A fold of maximum is above each value folded, and is one of them or the value it starts from. -/
theorem fold_max {α : Type} [LinearOrder α] (s : Finset ι) (b : α) (f : ι → α) :
    (∀ i ∈ s, f i ≤ s.fold max b f) ∧ (s.fold max b f = b ∨ ∃ i ∈ s, s.fold max b f = f i) := by
  induction s using Finset.induction_on with
  | empty => exact ⟨fun i hi => absurd hi (Finset.notMem_empty i), .inl rfl⟩
  | insert a s ha ih =>
    obtain ⟨ih1, ih2⟩ := ih
    rw [Finset.fold_insert ha]
    constructor
    · intro i hi
      rcases Finset.mem_insert.1 hi with rfl | hi
      · exact le_max_left _ _
      · exact (ih1 i hi).trans (le_max_right _ _)
    · rcases max_choice (f a) (s.fold max b f) with h | h
      · exact .inr ⟨a, Finset.mem_insert_self a s, h⟩
      · rw [h]
        rcases ih2 with h2 | ⟨i, hi, h2⟩
        · exact .inl h2
        · exact .inr ⟨i, Finset.mem_insert_of_mem hi, h2⟩

end Cert.TopK
-- ==== Proof.TopK.Lane.lean ====
module

public import proofs.«01_k».proof.Proof.TopK.Steps
public import proofs.«01_k».proof.Proof.TopK.Fold
public import Idealize.ShloMosaic.Lib.Pointwise

@[expose] public section

noncomputable section

/-! The sixteen extractions of a lane: each takes one entry out of what is left, with its probability and its place, so
    that a lane of at most sixteen entries is taken whole. -/

namespace Cert.Kernel2Ideal.TopK

open Cert.Kernel2Ideal Cert.Kernel2Ideal.Gen Idealize.ShloMosaic Cert.TopK

theorem bit_cases (w : BitVec 1) : w = 0#1 ∨ w = 1#1 := by revert w; decide

theorem cmpi_eq_iff {n : ℕ} (a b : BitVec n) : IntOp.cmpi .eq a b = 1#1 ↔ a = b := by
  unfold IntOp.cmpi
  show BitVec.ofBool (a == b) = 1#1 ↔ a = b
  by_cases h : a = b
  · simp [h]
  · rw [show (a == b) = false from beq_false_of_ne h]
    exact ⟨fun h => absurd h (by decide), fun h' => absurd h' h⟩

theorem select_one {α : Type} (a b : α) : Scalar.select 1#1 a b = a := rfl
theorem select_zero {α : Type} (a b : α) : Scalar.select 0#1 a b = b := rfl

theorem select_eq {α : Type} (w : BitVec 1) (a b : α) : Scalar.select w a b = if w = 1#1 then a else b := rfl

theorem toInt_word (n : ℕ) (h : n < 2 ^ 31) : (BitVec.ofNat 32 n).toInt = n := by
  rw [BitVec.toInt_eq_toNat_of_lt] <;> rw [BitVec.toNat_ofNat] <;> omega

theorem word_inj {a b : ℕ} (ha : a < 2 ^ 31) (hb : b < 2 ^ 31) (h : BitVec.ofNat 32 a = BitVec.ofNat 32 b) : a = b := by
  have := congrArg BitVec.toNat h
  rw [BitVec.toNat_ofNat, BitVec.toNat_ofNat] at this
  omega

theorem rows_apply (r : Fin 288) (c : Fin 128) : rows (ix2 r c) = BitVec.ofNat 32 r := by pointwise [rows]

theorem places_apply (r : Fin 288) (c : Fin 128) : places (ix2 r c) = BitVec.ofNat 32 (128 * r + c) := by
  pointwise [places]
  rw [rows_apply]
  unfold IntOp.addi IntOp.muli
  rw [BitVec.ofNat_add, BitVec.ofNat_mul, BitVec.mul_comm]

variable (m : IVec S288x128 1) (c : Fin 128)

/-- The first row of a lane is a row of it, or the large word when there is none. -/
theorem first_cases :
    (∃ r : Fin 288, m (ix2 r c) = 1#1 ∧ first m (ix1 c) = BitVec.ofNat 32 r)
      ∨ ((∀ r : Fin 288, m (ix2 r c) ≠ 1#1) ∧ first m (ix1 c) = big) := by
  have e : first m (ix1 c) = Finset.fold IntOp.minsi 2147483647#32
      (fun r : Fin 288 => Scalar.select (m (ix2 r c)) (BitVec.ofNat 32 r) big) Finset.univ := by
    pointwise [first]
    simp only [rows_apply]
  obtain ⟨hle, hor⟩ := fold_minsi (Finset.univ : Finset (Fin 288)) 2147483647#32
    (fun r : Fin 288 => Scalar.select (m (ix2 r c)) (BitVec.ofNat 32 r) big)
  rw [← e] at hle hor
  have hbig : big.toInt = 1073741824 := by decide
  simp only [Finset.mem_univ, true_and, forall_const, select_eq] at hle hor
  rcases hor with h | ⟨r, h⟩
  · have h0 := hle 0
    have hc : (2147483647#32).toInt = 2147483647 := by decide
    have hz : (BitVec.ofNat 32 ((0 : Fin 288) : ℕ)).toInt = 0 := toInt_word 0 (by omega)
    rw [h, hc] at h0
    split at h0
    · rw [hz] at h0; exact absurd h0 (by decide)
    · rw [hbig] at h0; exact absurd h0 (by decide)
  · split at h
    · rename_i hr; exact .inl ⟨r, hr, h⟩
    · refine .inr ⟨fun r' hr' => ?_, h⟩
      have h1 := hle r'
      rw [h, if_pos hr', hbig, toInt_word _ (by omega)] at h1
      omega

theorem hit_iff (r : Fin 288) : hit m (ix2 r c) = 1#1 ↔ BitVec.ofNat 32 r = first m (ix1 c) := by
  have e : hit m (ix2 r c) = IntOp.cmpi .eq (rows (ix2 r c)) (first m (ix1 c)) := by pointwise [hit]
  rw [e, cmpi_eq_iff, rows_apply]

theorem rest_iff (r : Fin 288) : rest m (ix2 r c) = 1#1 ↔ m (ix2 r c) = 1#1 ∧ hit m (ix2 r c) ≠ 1#1 := by
  have e : rest m (ix2 r c) = IntOp.andi (m (ix2 r c)) (IntOp.xori (hit m (ix2 r c)) 1#1) := by pointwise [rest]
  rw [e]
  generalize m (ix2 r c) = a
  generalize hit m (ix2 r c) = b
  revert a b
  decide

theorem some_apply : some' m (ix1 c) = IntOp.cmpi .slt (first m (ix1 c)) big := by pointwise [some']

theorem ofBits_neg_one : Ideal.ofBits FTy.f32 3212836864#32 = ((-1 : ℝ) : EReal) := by
  simp [Ideal.ofBits, Ideal.ieee, -EReal.coe_mul, -EReal.coe_neg]; norm_num

/-- One extraction of a lane: an entry of it with its probability and its place, and the rest is the lane without it; or
    the lane is empty, and what is written is -1 and the large word. -/
theorem cell_cases (v : FVec Ideal S288x128 .f32) :
    (∃ r : Fin 288, m (ix2 r c) = 1#1 ∧ valRow v m (ix2 0 c) = v (ix2 r c)
        ∧ idRow m (ix2 0 c) = BitVec.ofNat 32 (128 * r + c)
        ∧ ∀ r' : Fin 288, rest m (ix2 r' c) = 1#1 ↔ m (ix2 r' c) = 1#1 ∧ r' ≠ r)
      ∨ ((∀ r : Fin 288, m (ix2 r c) ≠ 1#1) ∧ valRow v m (ix2 0 c) = ((-1 : ℝ) : EReal) ∧ idRow m (ix2 0 c) = big) := by
  have ev : valRow v m (ix2 0 c) = Scalar.select (some' m (ix1 c))
      (∑ r : Fin 288, Scalar.select (hit m (ix2 r c)) (v (ix2 r c)) 0) ((-1 : ℝ) : EReal) := by
    rw [← ofBits_neg_one]
    pointwise [valRow, hitSum]
  have ed : idRow m (ix2 0 c) = Scalar.select (some' m (ix1 c))
      (Finset.fold IntOp.addi 0#32 (fun r : Fin 288 =>
        Scalar.select (IntOp.andi (hit m (ix2 r c)) (m (ix2 r c))) (places (ix2 r c)) 0#32) Finset.univ) big := by
    pointwise [idRow, idCol]
  rcases first_cases m c with ⟨r, hr, hf⟩ | ⟨hn, hf⟩
  · left
    have hs : some' m (ix1 c) = 1#1 := by
      rw [some_apply, hf]
      unfold IntOp.cmpi
      have : (BitVec.ofNat 32 (r : ℕ)).slt big = true := by
        rw [BitVec.slt_iff_toInt_lt, toInt_word _ (by omega)]
        have : big.toInt = 1073741824 := by decide
        omega
      dsimp only
      rw [this]; rfl
    have hh : ∀ r' : Fin 288, hit m (ix2 r' c) = 1#1 ↔ r' = r := by
      intro r'
      rw [hit_iff, hf]
      exact ⟨fun h => Fin.ext (word_inj (by omega) (by omega) h), fun h => by rw [h]⟩
    refine ⟨r, hr, ?_, ?_, fun r' => by rw [rest_iff, Ne, hh]⟩
    · rw [ev, hs, select_one, Finset.sum_eq_single r]
      · rw [(hh r).2 rfl, select_one]
      · intro r' _ hne
        rw [select_eq]
        exact if_neg fun h => hne ((hh r').1 h)
      · intro h; exact absurd (Finset.mem_univ r) h
    · rw [ed, hs, select_one, fold_addi_single _ r _ (Finset.mem_univ r)]
      · rw [hr, (hh r).2 rfl, show IntOp.andi 1#1 1#1 = 1#1 from rfl, select_one, places_apply]
      · intro r' hne
        rw [select_eq]
        refine if_neg fun h => hne ((hh r').1 ?_)
        generalize hit m (ix2 r' c) = a at h ⊢
        generalize m (ix2 r' c) = b at h
        revert a b
        decide
  · right
    have hs : some' m (ix1 c) = 0#1 := by rw [some_apply, hf]; decide
    refine ⟨hn, ?_, ?_⟩
    · rw [ev, hs]; rfl
    · rw [ed, hs]; rfl

/-- The rows of a lane. -/
def live : Finset (Fin 288) := Finset.univ.filter fun r => m (ix2 r c) = 1#1

theorem card_live_rest : (live (rest m) c).card ≤ (live m c).card - 1 := by
  rcases cell_cases m c (fun _ => 0) with ⟨r, hr, -, -, h⟩ | ⟨hn, -, -⟩
  · have e : live (rest m) c = (live m c).erase r := by
      ext r'
      simp only [live, Finset.mem_filter, Finset.mem_univ, true_and, Finset.mem_erase, h]
      exact and_comm
    rw [e, Finset.card_erase_of_mem (by simp only [live, Finset.mem_filter, Finset.mem_univ, true_and]; exact hr)]
  · have e : live (rest m) c = ∅ := by
      ext r'
      simp only [live, Finset.mem_filter, Finset.mem_univ, true_and, Finset.notMem_empty, iff_false, rest_iff]
      exact fun h => hn r' h.1
    rw [e]; simp

theorem card_live_restAt (k : ℕ) : (live (restAt m k) c).card ≤ (live m c).card - k := by
  induction k with
  | zero => exact le_refl _
  | succ k ih =>
    have := card_live_rest (restAt m k) c
    show (live (rest (restAt m k)) c).card ≤ _
    omega

theorem restAt_sub (k : ℕ) (r : Fin 288) (h : restAt m k (ix2 r c) = 1#1) : m (ix2 r c) = 1#1 := by
  induction k with
  | zero => exact h
  | succ k ih => exact ih ((rest_iff _ c r).1 h).1

theorem vals_apply (v : FVec Ideal S288x128 .f32) (k : Fin 16) :
    vals v m (ix2 k c) = valRow v (restAt m k) (ix2 0 c) := by
  have e : vals v m = concatenate S16x128 0 (List.ofFn fun k : Fin 16 => (⟨S1x128, valRow v (restAt m k)⟩ : (s : Shape) × (s.Idx → EReal)))
    concatenates_S1x128_S1x128_S1x128_S1x128_S1x128_S1x128_S1x128_S1x128_S1x128_S1x128_S1x128_S1x128_S1x128_S1x128_S1x128_S1x128_S16x128_d0 := rfl
  rw [e]
  pointwise

theorem ids_apply (k : Fin 16) : ids m (ix2 k c) = idRow (restAt m k) (ix2 0 c) := by
  have e : ids m = concatenate S16x128 0 (List.ofFn fun k : Fin 16 => (⟨S1x128, idRow (restAt m k)⟩ : (s : Shape) × (s.Idx → BitVec 32)))
    concatenates_S1x128_S1x128_S1x128_S1x128_S1x128_S1x128_S1x128_S1x128_S1x128_S1x128_S1x128_S1x128_S1x128_S1x128_S1x128_S1x128_S16x128_d0 := rfl
  rw [e]
  pointwise

/-- Each extraction is an entry of `m` with its place, or -1 and the large word. -/
theorem cell_sound (v : FVec Ideal S288x128 .f32) (k : Fin 16) :
    (∃ r : Fin 288, m (ix2 r c) = 1#1 ∧ vals v m (ix2 k c) = v (ix2 r c) ∧ ids m (ix2 k c) = BitVec.ofNat 32 (128 * r + c))
      ∨ (vals v m (ix2 k c) = ((-1 : ℝ) : EReal) ∧ ids m (ix2 k c) = big) := by
  rw [vals_apply, ids_apply]
  rcases cell_cases (restAt m k) c v with ⟨r, hr, h1, h2, -⟩ | ⟨-, h1, h2⟩
  · exact .inl ⟨r, restAt_sub m c k r hr, h1, h2⟩
  · exact .inr ⟨h1, h2⟩

/-- Every entry of a lane of at most sixteen is extracted. -/
theorem cell_complete (hc : (live m c).card ≤ 16) (r : Fin 288) (hr : m (ix2 r c) = 1#1) :
    ∃ k : Fin 16, ids m (ix2 k c) = BitVec.ofNat 32 (128 * r + c) := by
  by_contra hno
  have hall : ∀ k : ℕ, k ≤ 16 → restAt m k (ix2 r c) = 1#1 := by
    intro k
    induction k with
    | zero => exact fun _ => hr
    | succ k ih =>
      intro hk
      rcases cell_cases (restAt m k) c (fun _ => 0) with ⟨r', -, -, h2, h3⟩ | ⟨hn, -, -⟩
      · refine (h3 r).2 ⟨ih (by omega), fun e => hno ⟨⟨k, by omega⟩, ?_⟩⟩
        rw [ids_apply, e]; exact h2
      · exact absurd (ih (by omega)) (hn r)
  have h16 := card_live_restAt m c 16
  have : r ∈ live (restAt m 16) c := by
    simp only [live, Finset.mem_filter, Finset.mem_univ, true_and]; exact hall 16 (le_refl _)
  have := Finset.card_pos.2 ⟨r, this⟩
  omega

end Cert.Kernel2Ideal.TopK
-- ==== Proof.TopK.Select.lean ====
module

public import proofs.«01_k».proof.Proof.TopK.Lane

@[expose] public section

noncomputable section

/-! The three hundred selections take the extracted entries in the order of probability, equal ones by place. -/

namespace Cert.Kernel2Ideal.TopK

open Cert.Kernel2Ideal Cert.Kernel2Ideal.Gen Idealize.ShloMosaic Cert.TopK

/-- A property kept by every trip holds of the loop's result. -/
theorem fold_inv {α : Type} {n : ℕ} (g : Fin n → α → α) (a : α) (P : ℕ → α → Prop) (h0 : P 0 a)
    (h : ∀ (k : Fin n) (s : α), P k s → P (k + 1) (g k s)) : P n (Scf.fold g a) := by
  have hk : ∀ k, k ≤ n → P k (((List.finRange n).take k).foldl (fun s i => g i s) a) := by
    intro k
    induction k with
    | zero => exact fun _ => h0
    | succ k ih =>
      intro hk
      have hl : k < (List.finRange n).length := by rw [List.length_finRange]; exact hk
      rw [List.take_succ_eq_append_getElem hl, List.foldl_append, List.getElem_finRange]
      exact h ⟨k, hk⟩ _ (ih (by omega))
  have := hk n (le_refl n)
  rw [List.take_of_length_le (by rw [List.length_finRange])] at this
  rw [Scf.fold_eq]
  exact this

/-- The row and the lane of a place. -/
def rowOf (f : Fin 36864) : Fin 288 := ⟨(f : ℕ) / 128, by omega⟩
def laneOf (f : Fin 36864) : Fin 128 := ⟨(f : ℕ) % 128, by omega⟩

theorem place_eq (f : Fin 36864) : 128 * (rowOf f : ℕ) + (laneOf f : ℕ) = f := by
  show 128 * ((f : ℕ) / 128) + (f : ℕ) % 128 = f
  omega

/-- The entry of `x` at a place. -/
def atPlace {α : Type} (x : S288x128.Idx → α) (f : Fin 36864) : α := x (ix2 (rowOf f) (laneOf f))

theorem entry_place (r : Fin 288) (c : Fin 128) :
    ∃ f : Fin 36864, rowOf f = r ∧ laneOf f = c ∧ (f : ℕ) = 128 * r + c :=
  ⟨⟨128 * r + c, by omega⟩, Fin.ext (by show (128 * (r : ℕ) + c) / 128 = r; omega),
    Fin.ext (by show (128 * (r : ℕ) + c) % 128 = c; omega), rfl⟩

/-- `σ` lists the first 300 places of `m` in the order of the probabilities `v`, equal ones by place. -/
structure Ordered (v : FVec Ideal S288x128 .f32) (m : IVec S288x128 1) (σ : Fin 300 → Fin 36864) : Prop where
  inj : Function.Injective σ
  mem : ∀ j, atPlace m (σ j) = 1#1
  next : ∀ j f, (∀ i, i < j → σ i ≠ f) → atPlace m f = 1#1 →
    atPlace v f < atPlace v (σ j) ∨ (atPlace v f = atPlace v (σ j) ∧ σ j ≤ f)
  nonneg : ∀ f, 0 ≤ atPlace v f
  few : ∀ c, (live m c).card ≤ 16

variable {v : FVec Ideal S288x128 .f32} {m : IVec S288x128 1} {σ : Fin 300 → Fin 36864}

/-- An extraction is an entry of `m` at some place, or -1 and the large word. -/
theorem cell_place (v : FVec Ideal S288x128 .f32) (m : IVec S288x128 1) (a : Fin 16) (l : Fin 128) :
    (∃ f : Fin 36864, atPlace m f = 1#1 ∧ vals v m (ix2 a l) = atPlace v f ∧ ids m (ix2 a l) = BitVec.ofNat 32 f)
      ∨ (vals v m (ix2 a l) = ((-1 : ℝ) : EReal) ∧ ids m (ix2 a l) = big) := by
  rcases cell_sound m l v a with ⟨r, h1, h2, h3⟩ | h
  · obtain ⟨f, hr, hl, hf⟩ := entry_place r l
    refine .inl ⟨f, ?_, ?_, ?_⟩
    · unfold atPlace; rw [hr, hl]; exact h1
    · unfold atPlace; rw [hr, hl]; exact h2
    · rw [hf]; exact h3
  · exact .inr h

theorem place_inj {f g : Fin 36864} (h : BitVec.ofNat 32 (f : ℕ) = BitVec.ofNat 32 (g : ℕ)) : f = g :=
  Fin.ext (word_inj (by omega) (by omega) h)

theorem place_ne_big (f : Fin 36864) : BitVec.ofNat 32 (f : ℕ) ≠ big := by
  intro h
  have := congrArg BitVec.toInt h
  rw [toInt_word _ (by omega), show big.toInt = 1073741824 by decide] at this
  omega

theorem neg_one_lt (x : EReal) (h : 0 ≤ x) : ((-1 : ℝ) : EReal) < x :=
  lt_of_lt_of_le (by exact_mod_cast (by norm_num : (-1 : ℝ) < 0)) h

/-- What the loop holds after `k` selections: the cells whose place is selected are -1, the others as extracted, and the
    first `k` columns of the result are the places selected. -/
def Held (v : FVec Ideal S288x128 .f32) (m : IVec S288x128 1) (σ : Fin 300 → Fin 36864) (k : ℕ)
    (s : FVec Ideal S16x128 .f32 × IVec S1x512 32) : Prop :=
  (∀ (a : Fin 16) (l : Fin 128),
    ((∃ i : Fin 300, (i : ℕ) < k ∧ ids m (ix2 a l) = BitVec.ofNat 32 (σ i)) → s.1 (ix2 a l) = ((-1 : ℝ) : EReal))
    ∧ ((¬ ∃ i : Fin 300, (i : ℕ) < k ∧ ids m (ix2 a l) = BitVec.ofNat 32 (σ i)) → s.1 (ix2 a l) = vals v m (ix2 a l)))
  ∧ ∀ j : Fin 300, (j : ℕ) < k → s.2 (ix2 0 ⟨j, by omega⟩) = BitVec.ofNat 32 (σ j)

section

variable (h : Ordered v m σ) (k : Fin 300) (s : FVec Ideal S16x128 .f32 × IVec S1x512 32) (hs : Held v m σ k s)

include h hs

/-- No cell is above the next selected entry, and those equal to it have its place or a later one. -/
theorem cell_le (a : Fin 16) (l : Fin 128) :
    s.1 (ix2 a l) < atPlace v (σ k)
      ∨ (s.1 (ix2 a l) = atPlace v (σ k) ∧ ∃ f : Fin 36864, ids m (ix2 a l) = BitVec.ofNat 32 f ∧ σ k ≤ f) := by
  by_cases hp : ∃ i : Fin 300, (i : ℕ) < k ∧ ids m (ix2 a l) = BitVec.ofNat 32 (σ i)
  · rw [(hs.1 a l).1 hp]
    exact .inl (neg_one_lt _ (h.nonneg _))
  · rw [(hs.1 a l).2 hp]
    rcases cell_place v m a l with ⟨f, hm, hv, hd⟩ | ⟨hv, -⟩
    · rw [hv]
      rcases h.next k f (fun i hi e => hp ⟨i, hi, by rw [hd, e]⟩) hm with hlt | ⟨heq, hle⟩
      · exact .inl hlt
      · exact .inr ⟨heq, f, hd, hle⟩
    · rw [hv]
      exact .inl (neg_one_lt _ (h.nonneg _))

/-- Some cell is the next selected entry. -/
theorem cell_next : ∃ a l, s.1 (ix2 a l) = atPlace v (σ k) ∧ ids m (ix2 a l) = BitVec.ofNat 32 (σ k) := by
  obtain ⟨a, ha⟩ := cell_complete m (laneOf (σ k)) (h.few _) (rowOf (σ k)) (h.mem k)
  rw [place_eq] at ha
  refine ⟨a, laneOf (σ k), ?_, ha⟩
  have hp : ¬ ∃ i : Fin 300, (i : ℕ) < k ∧ ids m (ix2 a (laneOf (σ k))) = BitVec.ofNat 32 (σ i) := by
    rintro ⟨i, hi, he⟩
    rw [ha] at he
    have := h.inj (place_inj he)
    rw [this] at hi
    exact lt_irrefl _ hi
  rw [(hs.1 a _).2 hp]
  rcases cell_place v m a (laneOf (σ k)) with ⟨f, -, hv, hd⟩ | ⟨-, hd⟩
  · rw [ha] at hd
    rw [hv, place_inj hd]
  · rw [ha] at hd
    exact absurd hd (place_ne_big _)

theorem top_eq : top s.1 = atPlace v (σ k) := by
  have e : top s.1 = Finset.fold max (Ideal.ofBits FTy.f32 4286578688#32)
      (fun x : Fin 16 × Fin 128 => s.1 (ix2 x.1 x.2)) Finset.univ := by pointwise [top]
  have hbot : Ideal.ofBits FTy.f32 4286578688#32 = (⊥ : EReal) := by simp [Ideal.ofBits, Ideal.ieee]
  rw [hbot] at e
  obtain ⟨hle, hor⟩ := fold_max (α := EReal) (Finset.univ : Finset (Fin 16 × Fin 128)) ⊥ (fun x => s.1 (ix2 x.1 x.2))
  rw [← e] at hle hor
  obtain ⟨a, l, hal, -⟩ := cell_next h k s hs
  refine le_antisymm ?_ (hal ▸ hle (a, l) (Finset.mem_univ _))
  rcases hor with hb | ⟨x, -, hx⟩
  · rw [hb]; exact bot_le
  · rw [hx]
    rcases cell_le h k s hs x.1 x.2 with hlt | ⟨heq, -⟩
    · exact hlt.le
    · exact heq.le

theorem pick_eq : pick (ids m) s.1 = BitVec.ofNat 32 (σ k) := by
  have e : pick (ids m) s.1 = Finset.fold IntOp.minsi 2147483647#32
      (fun x : Fin 16 × Fin 128 => if s.1 (ix2 x.1 x.2) = top s.1 then ids m (ix2 x.1 x.2) else big) Finset.univ := by
    pointwise [pick]
  obtain ⟨hle, hor⟩ := fold_minsi (Finset.univ : Finset (Fin 16 × Fin 128)) 2147483647#32
    (fun x => if s.1 (ix2 x.1 x.2) = top s.1 then ids m (ix2 x.1 x.2) else big)
  rw [← e, top_eq h k s hs] at hle hor
  simp only [Finset.mem_univ, true_and, forall_const] at hle hor
  obtain ⟨a, l, hal, hd⟩ := cell_next h k s hs
  have h1 := hle (a, l)
  rw [if_pos hal, hd, toInt_word _ (by omega)] at h1
  have hbig : big.toInt = 1073741824 := by decide
  rcases hor with hb | ⟨x, hx⟩
  · rw [hb, show (2147483647#32).toInt = 2147483647 by decide] at h1
    omega
  · rw [hx] at h1 ⊢
    split at h1
    · rename_i heq
      rw [if_pos heq]
      rcases cell_le h k s hs x.1 x.2 with hlt | ⟨-, f, hf, hkf⟩
      · exact absurd heq hlt.ne
      · rw [hf, toInt_word _ (by omega)] at h1
        have : (f : ℕ) = σ k := by have : (σ k : ℕ) ≤ f := hkf; omega
        rw [hf, this]
    · rw [hbig] at h1
      omega

end

theorem iv_eq (k : ℕ) : Scf.iv 0#32 1#32 k = BitVec.ofNat 32 k := by
  unfold Scf.iv
  rw [BitVec.mul_one, BitVec.zero_add]

theorem trips_eq : k0_t2_loop.trips = 300 := by decide

/-- One trip selects the next place. -/
theorem held_step (h : Ordered v m σ) (k : Fin k0_t2_loop.trips) (s : FVec Ideal S16x128 .f32 × IVec S1x512 32)
    (hs : Held v m σ k s) : Held v m σ (k + 1) (selectStep (ids m) k s) := by
  obtain ⟨k, hk⟩ := k
  have hk' : k < 300 := trips_eq ▸ hk
  have hpick := pick_eq h ⟨k, hk'⟩ s hs
  constructor
  · intro a l
    have e : (selectStep (ids m) ⟨k, hk⟩ s).1 (ix2 a l)
        = Scalar.select (IntOp.cmpi .eq (ids m (ix2 a l)) (pick (ids m) s.1)) ((-1 : ℝ) : EReal) (s.1 (ix2 a l)) := by
      rw [← ofBits_neg_one]
      pointwise [selectStep]
    rw [e, hpick]
    by_cases hq : ids m (ix2 a l) = BitVec.ofNat 32 (σ ⟨k, hk'⟩)
    · rw [(cmpi_eq_iff _ _).2 hq, select_one]
      exact ⟨fun _ => rfl, fun hno => absurd ⟨⟨k, hk'⟩, Nat.lt_succ_self k, hq⟩ hno⟩
    · rw [select_eq, if_neg fun hh => hq ((cmpi_eq_iff _ _).1 hh)]
      have iff : (∃ i : Fin 300, (i : ℕ) < k + 1 ∧ ids m (ix2 a l) = BitVec.ofNat 32 (σ i))
          ↔ ∃ i : Fin 300, (i : ℕ) < k ∧ ids m (ix2 a l) = BitVec.ofNat 32 (σ i) := by
        constructor
        · rintro ⟨i, hi, he⟩
          refine ⟨i, ?_, he⟩
          rcases Nat.lt_succ_iff_lt_or_eq.1 hi with hlt | heq
          · exact hlt
          · exact absurd (by rw [he, show i = ⟨k, hk'⟩ from Fin.ext heq]) hq
        · rintro ⟨i, hi, he⟩
          exact ⟨i, Nat.lt_succ_of_lt hi, he⟩
      rw [show ((⟨k, hk⟩ : Fin k0_t2_loop.trips) : ℕ) = k from rfl, iff]
      exact hs.1 a l
  · intro j hj
    have e : (selectStep (ids m) ⟨k, hk⟩ s).2 (ix2 0 ⟨j, by omega⟩)
        = Scalar.select (IntOp.cmpi .eq (BitVec.ofNat 32 (j : ℕ)) (Scf.iv 0#32 1#32 k)) (pick (ids m) s.1)
          (s.2 (ix2 0 ⟨j, by omega⟩)) := by
      pointwise [selectStep]
    rw [e, hpick, iv_eq]
    rcases Nat.lt_succ_iff_lt_or_eq.1 hj with hlt | heq
    · rw [select_eq, if_neg fun hh => ?_]
      · exact hs.2 j hlt
      · have := word_inj (by omega) (by omega) ((cmpi_eq_iff _ _).1 hh)
        exact absurd this (Nat.ne_of_lt hlt)
    · rw [show j = ⟨k, hk'⟩ from Fin.ext heq, (cmpi_eq_iff _ _).2 rfl, select_one]

/-- After all the selections the result's first 300 columns are the places of `σ`. -/
theorem selections_apply (h : Ordered v m σ) (j : Fin 300) :
    (selections (vals v m) (ids m)).2 (ix2 0 ⟨j, by omega⟩) = BitVec.ofNat 32 (σ j) := by
  have hh := fold_inv (selectStep (F := Ideal) (ids m)) (vals v m, broadcast S1x512 0#32) (Held v m σ)
    ⟨fun a l => ⟨fun ⟨i, hi, _⟩ => absurd hi (Nat.not_lt_zero _), fun _ => rfl⟩, fun j hj => absurd hj (Nat.not_lt_zero _)⟩
    (held_step h)
  exact hh.2 j (by rw [trips_eq]; exact j.isLt)

end Cert.Kernel2Ideal.TopK
-- ==== Proof.TopK.Word.lean ====
module

public import proofs.«01_k».proof.Proof.TopK.Select

@[expose] public section

noncomputable section

/-! The value of a word: mantissa times a power of two, as a real number. -/

namespace Cert.Kernel2Ideal.TopK

open Cert.Kernel2Ideal Cert.Kernel2Ideal.Gen Idealize.ShloMosaic Cert.TopK

/-- The value of the word `n`. -/
def wv (n : ℕ) : ℝ := ((n % 8388608 + (if 0 < n / 8388608 then 8388608 else 0) : ℕ) : ℝ) * (2 : ℝ) ^ (((max (n / 8388608) 1 : ℕ) : ℝ) - 150)

theorem shrsi_word (n : ℕ) (h : n ≤ 2 ^ 30) : Scalar.shrsi (BitVec.ofNat 32 n) 23#32 = BitVec.ofNat 32 (n / 8388608) := by
  have hm : (BitVec.ofNat 32 n).msb = false := by
    rw [BitVec.msb_eq_false_iff_two_mul_lt, BitVec.toNat_ofNat]; omega
  have e : Scalar.shrsi (BitVec.ofNat 32 n) 23#32 = (BitVec.ofNat 32 n).sshiftRight 23 := by
    unfold Scalar.shrsi IntOp.shrsi
    exact if_pos (by decide)
  rw [e]
  rw [BitVec.sshiftRight_eq_of_msb_false hm]
  apply BitVec.eq_of_toNat_eq
  rw [BitVec.toNat_ushiftRight, BitVec.toNat_ofNat, BitVec.toNat_ofNat, Nat.shiftRight_eq_div_pow]
  omega

theorem andi_word (n : ℕ) (h : n ≤ 2 ^ 30) : Scalar.andi (BitVec.ofNat 32 n) 8388607#32 = BitVec.ofNat 32 (n % 8388608) := by
  apply BitVec.eq_of_toNat_eq
  show ((BitVec.ofNat 32 n) &&& 8388607#32).toNat = _
  rw [BitVec.toNat_and, BitVec.toNat_ofNat, BitVec.toNat_ofNat, BitVec.toNat_ofNat,
    show 8388607 % 2 ^ 32 = 2 ^ 23 - 1 by norm_num, Nat.and_two_pow_sub_one_eq_mod]
  omega

theorem sgt_word (n : ℕ) (h : n ≤ 2 ^ 30) : Scalar.cmpi .sgt (BitVec.ofNat 32 n) 0#32 = if 0 < n then 1#1 else 0#1 := by
  show BitVec.ofBool ((0#32).slt (BitVec.ofNat 32 n)) = _
  have e : (0#32).slt (BitVec.ofNat 32 n) = decide (0 < n) := by
    rw [Bool.eq_iff_iff, BitVec.slt_iff_toInt_lt, toInt_word n (by omega), decide_eq_true_iff]
    show (0 : ℤ) < n ↔ _
    omega
  rw [e]
  by_cases hn : 0 < n
  · rw [if_pos hn, decide_eq_true hn]; rfl
  · rw [if_neg hn, decide_eq_false hn]; rfl

theorem maxsi_word (n : ℕ) (h : n ≤ 2 ^ 30) : Scalar.maxsi (BitVec.ofNat 32 n) 1#32 = BitVec.ofNat 32 (max n 1) := by
  show (if (1#32).slt (BitVec.ofNat 32 n) then BitVec.ofNat 32 n else 1#32) = _
  by_cases hn : 1 < n
  · rw [if_pos (by rw [BitVec.slt_iff_toInt_lt, toInt_word n (by omega)]; show (1 : ℤ) < n; omega), max_eq_left hn.le]
  · rw [if_neg (by rw [BitVec.slt_iff_toInt_lt, toInt_word n (by omega)]; show ¬ (1 : ℤ) < n; omega), max_eq_right (by omega)]

theorem exp2_real (x : ℝ) : Scalar.exp2 (F := Ideal) (φ := .f32) (x : EReal) = (((2 : ℝ) ^ x : ℝ) : EReal) := by
  rfl

theorem wordValue_eq (n : ℕ) (h : n ≤ 2 ^ 30) : wordValue (F := Ideal) (BitVec.ofNat 32 n) = ((wv n : ℝ) : EReal) := by
  unfold wordValue
  rw [shrsi_word n h, andi_word n h, sgt_word _ (by omega), maxsi_word _ (by omega)]
  have e1 : (Scalar.addi (BitVec.ofNat 32 (n % 8388608))
      (Scalar.select (if 0 < n / 8388608 then 1#1 else 0#1) 8388608#32 0#32)).toInt
      = ((n % 8388608 + (if 0 < n / 8388608 then 8388608 else 0) : ℕ) : ℤ) := by
    show ((BitVec.ofNat 32 (n % 8388608)) + _).toInt = _
    by_cases hn : 0 < n / 8388608
    · rw [if_pos hn, if_pos hn, select_one, ← BitVec.ofNat_add, toInt_word _ (by omega)]
    · rw [if_neg hn, if_neg hn, select_zero, ← BitVec.ofNat_add, toInt_word _ (by omega)]
  have e2 : (Scalar.subi (BitVec.ofNat 32 (max (n / 8388608) 1)) 150#32).toInt = ((max (n / 8388608) 1 : ℕ) : ℤ) - 150 := by
    show ((BitVec.ofNat 32 (max (n / 8388608) 1)) - 150#32).toInt = _
    rw [BitVec.toInt_sub, toInt_word _ (by omega), show (150#32).toInt = 150 by decide]
    apply Int.bmod_eq_of_le <;> omega
  have e3 : ∀ w : BitVec 32, (Scalar.sitofp .f32 w : Ideal .f32) = (((w.toInt : ℤ) : ℝ) : EReal) := fun _ => rfl
  rw [e3, e3, e1, e2, exp2_real]
  show (((_ : ℝ) : EReal) * ((_ : ℝ) : EReal)) = _
  rw [← EReal.coe_mul]
  unfold wv
  push_cast
  rfl

theorem wv_zero : wv 0 = 0 := by unfold wv; norm_num

theorem wv_last : wv (2 ^ 30) = 2 := by
  unfold wv
  have e : ((2 ^ 30 % 8388608 + (if 0 < 2 ^ 30 / 8388608 then 8388608 else 0) : ℕ) : ℝ) = 8388608 := by norm_num
  have e' : ((max (2 ^ 30 / 8388608) 1 : ℕ) : ℝ) = 128 := by norm_num
  rw [e, e']
  rw [show ((128 : ℝ) - 150) = ((-22 : ℤ) : ℝ) by norm_num, Real.rpow_intCast]
  norm_num

/-- One step of the search's last bit moves a word's value by at most one part in 512, or by at most `2 ^ (-135)`. -/
theorem wv_step (q : ℕ) (hq : 16384 * (q + 1) ≤ 2 ^ 30) :
    wv (16384 * (q + 1)) * (511 / 512) ≤ wv (16384 * q) ∨ wv (16384 * (q + 1)) - 2 ^ (-135 : ℤ) ≤ wv (16384 * q) := by
  obtain ⟨a, b, hb, rfl⟩ : ∃ a b, b < 512 ∧ q = 512 * a + b := ⟨q / 512, q % 512, by omega, by omega⟩
  have d0 : 16384 * (512 * a + b) / 8388608 = a := by omega
  have m0 : 16384 * (512 * a + b) % 8388608 = 16384 * b := by omega
  have hsub : (2 : ℝ) ^ ((1 : ℝ) - 150) = 2 ^ (-149 : ℤ) := by
    rw [show ((1 : ℝ) - 150) = ((-149 : ℤ) : ℝ) by norm_num, Real.rpow_intCast]
  have hpow : (2 : ℝ) ^ (-135 : ℤ) = 16384 * 2 ^ (-149 : ℤ) := by
    rw [show (-135 : ℤ) = 14 + (-149) by norm_num, zpow_add₀ (by norm_num)]; norm_num
  by_cases ha : 1 ≤ a
  · left
    have e1 : wv (16384 * (512 * a + b + 1)) = ((16384 * (b + 1) + 8388608 : ℕ) : ℝ) * 2 ^ ((a : ℝ) - 150) := by
      unfold wv
      by_cases hb' : b < 511
      · rw [show 16384 * (512 * a + b + 1) / 8388608 = a by omega,
          show 16384 * (512 * a + b + 1) % 8388608 = 16384 * (b + 1) by omega, if_pos (by omega), max_eq_left ha]
      · rw [show 16384 * (512 * a + b + 1) / 8388608 = a + 1 by omega,
          show 16384 * (512 * a + b + 1) % 8388608 = 0 by omega, if_pos (by omega), max_eq_left (by omega),
          show b = 511 by omega]
        push_cast
        rw [show ((a : ℝ) + 1 - 150) = (a - 150) + 1 by ring, Real.rpow_add (by norm_num), Real.rpow_one]
        ring
    have e0 : wv (16384 * (512 * a + b)) = ((16384 * b + 8388608 : ℕ) : ℝ) * 2 ^ ((a : ℝ) - 150) := by
      unfold wv
      rw [d0, m0, if_pos (by omega), max_eq_left ha]
    rw [e1, e0]
    have hp : (0 : ℝ) < 2 ^ ((a : ℝ) - 150) := by positivity
    have hk : (((16384 * (b + 1) + 8388608 : ℕ) : ℝ)) * (511 / 512) ≤ ((16384 * b + 8388608 : ℕ) : ℝ) := by
      have hb0 : (0 : ℝ) ≤ b := Nat.cast_nonneg b
      push_cast
      linarith
    calc _ = (((16384 * (b + 1) + 8388608 : ℕ) : ℝ)) * (511 / 512) * 2 ^ ((a : ℝ) - 150) := by ring
      _ ≤ _ := mul_le_mul_of_nonneg_right hk hp.le
  · right
    obtain rfl : a = 0 := by omega
    have e0 : wv (16384 * (512 * 0 + b)) = (16384 * (b : ℝ)) * 2 ^ (-149 : ℤ) := by
      unfold wv
      rw [d0, m0, if_neg (by omega), max_eq_right (by omega)]
      push_cast
      rw [hsub, add_zero]
    have e1 : wv (16384 * (512 * 0 + b + 1)) = (16384 * ((b : ℝ) + 1)) * 2 ^ (-149 : ℤ) := by
      unfold wv
      by_cases hb' : b < 511
      · rw [show 16384 * (512 * 0 + b + 1) / 8388608 = 0 by omega,
          show 16384 * (512 * 0 + b + 1) % 8388608 = 16384 * (b + 1) by omega, if_neg (by omega), max_eq_right (by omega)]
        push_cast
        rw [hsub, add_zero]
      · rw [show 16384 * (512 * 0 + b + 1) / 8388608 = 1 by omega,
          show 16384 * (512 * 0 + b + 1) % 8388608 = 0 by omega, if_pos (by omega), max_eq_left (by omega),
          show b = 511 by omega]
        push_cast
        rw [hsub]
        norm_num
    rw [e0, e1, hpow]
    linarith

end Cert.Kernel2Ideal.TopK
-- ==== Proof.TopK.Search.lean ====
module

public import proofs.«01_k».proof.Proof.TopK.Word

@[expose] public section

noncomputable section

/-! The search ends at a word that at least 300 probabilities reach, while fewer than 300 reach the next of its kind. -/

namespace Cert.Kernel2Ideal.TopK

open Cert.Kernel2Ideal Cert.Kernel2Ideal.Gen Idealize.ShloMosaic Cert.TopK

variable {v : FVec Ideal S288x128 .f32}

/-- The entries that reach the value of the word `n`. -/
def reached (v : FVec Ideal S288x128 .f32) (n : ℕ) : Finset (Fin 288 × Fin 128) :=
  Finset.univ.filter fun q => ((wv n : ℝ) : EReal) ≤ v (ix2 q.1 q.2)

theorem reach_iff (n : ℕ) (h : n ≤ 2 ^ 30) (r : Fin 288) (c : Fin 128) :
    reach v (BitVec.ofNat 32 n) (ix2 r c) = 1#1 ↔ ((wv n : ℝ) : EReal) ≤ v (ix2 r c) := by
  have e : reach v (BitVec.ofNat 32 n) (ix2 r c)
      = BitVec.ofBool (decide (wordValue (F := Ideal) (BitVec.ofNat 32 n) ≤ v (ix2 r c))) := by
    pointwise [reach]
  rw [e, wordValue_eq n h]
  by_cases hx : ((wv n : ℝ) : EReal) ≤ v (ix2 r c)
  · rw [decide_eq_true hx]; exact ⟨fun _ => hx, fun _ => rfl⟩
  · rw [decide_eq_false hx]; exact ⟨fun h => absurd h (by decide), fun h => absurd h hx⟩

theorem count_eq (n : ℕ) (h : n ≤ 2 ^ 30) : count v (BitVec.ofNat 32 n) = BitVec.ofNat 32 (reached v n).card := by
  have e : count v (BitVec.ofNat 32 n)
      = (Finset.univ : Finset (Fin 288 × Fin 128)).fold IntOp.addi 0#32
        (fun x => BitVec.setWidth 32 (reach v (BitVec.ofNat 32 n) (ix2 x.1 x.2))) := by
    pointwise [count]
  rw [e, fold_addi_count]
  refine congrArg (fun s => BitVec.ofNat 32 (Finset.card s)) ?_
  exact Finset.filter_congr fun q _ => reach_iff n h q.1 q.2

theorem card_reached (n : ℕ) : (reached v n).card ≤ 36864 := by
  refine (Finset.card_le_univ _).trans ?_
  simp

theorem search_trips : k0_t1_loop.trips = 16 := by rfl

theorem bit_word (k : ℕ) (h : k < 16) :
    Scalar.shli 1#32 (Scalar.subi 29#32 (BitVec.ofNat 32 k)) = BitVec.ofNat 32 (2 ^ (29 - k)) := by
  interval_cases k <;> rfl

theorem or_word (n k : ℕ) (h : k < 16) (hn : (n + 1) * 2 ^ (30 - k) ≤ 2 ^ 30) :
    Scalar.ori (BitVec.ofNat 32 (n * 2 ^ (30 - k))) (BitVec.ofNat 32 (2 ^ (29 - k)))
      = BitVec.ofNat 32 ((2 * n + 1) * 2 ^ (29 - k)) := by
  have hp : 2 ^ (30 - k) = 2 * 2 ^ (29 - k) := by
    rw [show 30 - k = (29 - k) + 1 by omega, pow_succ]; ring
  have h1 : 0 < 2 ^ (29 - k) := by positivity
  have hs : n * 2 ^ (30 - k) + 2 ^ (30 - k) ≤ 2 ^ 30 := by linarith
  apply BitVec.eq_of_toNat_eq
  show (BitVec.ofNat 32 (n * 2 ^ (30 - k)) ||| BitVec.ofNat 32 (2 ^ (29 - k))).toNat = _
  rw [BitVec.toNat_or, BitVec.toNat_ofNat, BitVec.toNat_ofNat, BitVec.toNat_ofNat,
    Nat.mod_eq_of_lt (by omega), Nat.mod_eq_of_lt (by omega), Nat.mod_eq_of_lt (by rw [hp] at hs; linarith),
    mul_comm n, ← Nat.two_pow_add_eq_or_of_lt (by omega), hp]
  ring

/-- What the search knows of its word `t` after `k` steps. -/
def Found (v : FVec Ideal S288x128 .f32) (k : ℕ) (t : BitVec 32) : Prop :=
  ∃ n : ℕ, (n + 1) * 2 ^ (30 - k) ≤ 2 ^ 30 ∧ t = BitVec.ofNat 32 (n * 2 ^ (30 - k))
    ∧ 300 ≤ (reached v (n * 2 ^ (30 - k))).card ∧ (reached v ((n + 1) * 2 ^ (30 - k))).card < 300

theorem found_step (k : Fin k0_t1_loop.trips) (t : BitVec 32) (h : Found v k t) : Found v (k + 1) (searchStep v k t) := by
  obtain ⟨n, hn, rfl, hge, hlt⟩ := h
  have hk : (k : ℕ) < 16 := k.isLt.trans_eq search_trips
  have hp : 2 ^ (30 - (k : ℕ)) = 2 * 2 ^ (29 - (k : ℕ)) := by
    rw [show 30 - (k : ℕ) = (29 - (k : ℕ)) + 1 by omega, pow_succ]; ring
  have h1 : 0 < 2 ^ (29 - (k : ℕ)) := by positivity
  have he : 30 - ((k : ℕ) + 1) = 29 - (k : ℕ) := by omega
  have hb : (2 * n + 1) * 2 ^ (29 - (k : ℕ)) ≤ 2 ^ 30 := by rw [hp] at hn; linarith
  have hc := card_reached (v := v) ((2 * n + 1) * 2 ^ (29 - (k : ℕ)))
  unfold searchStep
  rw [iv_eq, bit_word k hk, or_word n k hk hn, count_eq _ hb, select_eq]
  have hs : Scalar.cmpi .sge (BitVec.ofNat 32 (reached v ((2 * n + 1) * 2 ^ (29 - (k : ℕ)))).card) 300#32 = 1#1
      ↔ 300 ≤ (reached v ((2 * n + 1) * 2 ^ (29 - (k : ℕ)))).card := by
    show BitVec.ofBool ((300#32).sle _) = 1#1 ↔ _
    rw [show ∀ b : Bool, (BitVec.ofBool b = 1#1 ↔ b = true) by decide, BitVec.sle_iff_toInt_le,
      toInt_word (reached v ((2 * n + 1) * 2 ^ (29 - (k : ℕ)))).card (by omega)]
    show (300 : ℤ) ≤ _ ↔ _
    omega
  by_cases hr : 300 ≤ (reached v ((2 * n + 1) * 2 ^ (29 - (k : ℕ)))).card
  · rw [if_pos (hs.2 hr)]
    refine ⟨2 * n + 1, ?_, by rw [he], by rw [he]; exact hr, ?_⟩
    · rw [he]; rw [hp] at hn; linarith
    · rw [he, show (2 * n + 1 + 1) * 2 ^ (29 - (k : ℕ)) = (n + 1) * 2 ^ (30 - (k : ℕ)) by rw [hp]; ring]; exact hlt
  · rw [if_neg (fun h => hr (hs.1 h))]
    refine ⟨2 * n, ?_, ?_, ?_, ?_⟩
    · rw [he]; exact hb
    · rw [he, hp]; congr 1; ring
    · rw [he, show 2 * n * 2 ^ (29 - (k : ℕ)) = n * 2 ^ (30 - (k : ℕ)) by rw [hp]; ring]; exact hge
    · rw [he]; omega

/-- The word the search ends at. -/
theorem search_spec (h0 : ∀ q, 0 ≤ v q) (h1 : ∀ q, v q ≤ 1) :
    ∃ n : ℕ, 16384 * (n + 1) ≤ 2 ^ 30 ∧ search v = BitVec.ofNat 32 (16384 * n)
      ∧ 300 ≤ (reached v (16384 * n)).card ∧ (reached v (16384 * (n + 1))).card < 300 := by
  have h : Found v k0_t1_loop.trips (search v) := by
    unfold search
    refine fold_inv (searchStep v) 0#32 (Found v) ?_ fun k t => found_step k t
    refine ⟨0, by norm_num, rfl, ?_, ?_⟩
    · have e : reached v (0 * 2 ^ (30 - 0)) = Finset.univ := by
        ext q
        simp only [reached, Finset.mem_filter, Finset.mem_univ, true_and, Nat.zero_mul, wv_zero, iff_true]
        exact h0 _
      rw [e]
      simp
    · have e : reached v ((0 + 1) * 2 ^ (30 - 0)) = ∅ := by
        ext q
        simp only [reached, Finset.mem_filter, Finset.mem_univ, true_and, Finset.notMem_empty, iff_false, not_le]
        rw [show (0 + 1) * 2 ^ (30 - 0) = 2 ^ 30 by norm_num, wv_last]
        refine lt_of_le_of_lt (h1 _) ?_
        exact_mod_cast (by norm_num : (1 : ℝ) < 2)
      rw [e]
      simp
  rw [search_trips] at h
  obtain ⟨n, a, b, c, d⟩ := h
  have e : 2 ^ (30 - 16) = 16384 := by norm_num
  rw [e] at a b c d
  rw [mul_comm] at a
  rw [mul_comm n] at b c
  rw [mul_comm (n + 1)] at d
  exact ⟨n, a, b, c, d⟩

end Cert.Kernel2Ideal.TopK
-- ==== Proof.TopK.Order.lean ====
module

public import proofs.«01_k».proof.Proof.TopK.Fold
public import Idealize.ShloMosaic.Lib.SortFacts
public import Idealize.ShloMosaic.Lib.Pointwise
public import Idealize.ShloMosaic.PureOps.Ideal

@[expose] public section

noncomputable section

/-! What the reference's selection of the 300 largest takes: larger keys first, equal ones by position. -/

namespace Cert.TopK

open Idealize.ShloMosaic

section Stable

variable {n : ℕ} (key : Fin n → EReal)

/-- `a` comes after `b`: its key is smaller, or the keys are equal and `b` is the earlier position. -/
def After (a b : Fin n) : Prop := key a < key b ∨ (key a = key b ∧ b < a)

/-- The order of a stable sort by key, larger first. -/
def larger (a b : Fin n) : Bool := decide (key b < key a)

theorem insert_after (a : Fin n) (l : List (Fin n)) (hl : l.Pairwise fun b c => After key c b) (ha : ∀ b ∈ l, a < b) :
    (insertBefore (larger key) a l).Pairwise fun b c => After key c b := by
  induction l with
  | nil => exact List.pairwise_singleton _ _
  | cons b l ih =>
    rw [List.pairwise_cons] at hl
    unfold insertBefore
    split
    · rename_i h
      have h' : key a < key b := by simpa [larger] using h
      refine List.pairwise_cons.2 ⟨fun c hc => ?_, ih hl.2 fun c hc => ha c (List.mem_cons_of_mem _ hc)⟩
      rcases List.mem_cons.1 ((perm_insertBefore (larger key) a l).mem_iff.1 hc) with rfl | hc'
      · exact .inl h'
      · exact hl.1 c hc'
    · rename_i h
      have h' : key b ≤ key a := by simpa [larger] using h
      refine List.pairwise_cons.2 ⟨fun c hc => ?_, List.pairwise_cons.2 hl⟩
      have hac := ha c hc
      have hcb : key c ≤ key a := by
        rcases List.mem_cons.1 hc with rfl | hc'
        · exact h'
        · rcases hl.1 c hc' with h1 | h1
          · exact h1.le.trans h'
          · exact h1.1.le.trans h'
      rcases lt_or_eq_of_le hcb with h1 | h1
      · exact .inl h1
      · exact .inr ⟨h1, hac⟩

theorem sort_after (l : List (Fin n)) (hl : l.Pairwise (· < ·)) :
    (stableSort (larger key) l).Pairwise fun b c => After key c b := by
  induction l with
  | nil => exact List.Pairwise.nil
  | cons a l ih =>
    rw [List.pairwise_cons] at hl
    unfold stableSort
    exact insert_after key a _ (ih hl.2) fun b hb => hl.1 b ((perm_stableSort (larger key) l).mem_iff.1 hb)

/-- A later position of the stable sort comes after an earlier one. -/
theorem sorted_after (i j : Fin n) (hij : i < j) : After key (sortedFrom (larger key) j) (sortedFrom (larger key) i) := by
  have hp : ∀ a b : Fin (sortPositions n (larger key)).length, a < b →
      After key ((sortPositions n (larger key)).get b) ((sortPositions n (larger key)).get a) :=
    List.pairwise_iff_get.1 (sort_after key (List.finRange n) (List.pairwise_lt_finRange n))
  unfold sortedFrom
  exact hp _ _ (by simp only [Fin.lt_def, Fin.val_cast]; exact hij)

end Stable

section Taken

variable {N n : ℕ} (hn : n ≤ N)

/-- The `j`-th of the positions taken. -/
def taken (key : Fin N → EReal) (j : Fin n) : Fin N := sortedFrom (larger key) (j.castLE hn)

theorem taken_injective (key : Fin N → EReal) : Function.Injective (taken hn key) := fun a b h =>
  Fin.ext (congrArg Fin.val (sortedFrom_injective (larger key) h) :)

/-- What is not taken before `j` is the one taken at `j` or comes after it. -/
theorem taken_next (key : Fin N → EReal) (j : Fin n) (f : Fin N) (h : ∀ i, i < j → taken hn key i ≠ f) :
    key f < key (taken hn key j) ∨ (key f = key (taken hn key j) ∧ taken hn key j ≤ f) := by
  obtain ⟨k, rfl⟩ := sortedFrom_surjective (larger key) f
  rcases lt_trichotomy (j : ℕ) k with hk | hk | hk
  · rcases sorted_after key (j.castLE hn) k hk with h1 | h1
    · exact .inl h1
    · exact .inr ⟨h1.1, h1.2.le⟩
  · have e : taken hn key j = sortedFrom (larger key) k := congrArg (sortedFrom (larger key)) (Fin.ext hk)
    rw [e]
    exact .inr ⟨rfl, le_refl _⟩
  · exact absurd rfl (h ⟨k, by omega⟩ hk)

variable {A : ℕ}

theorem along_row (b : Fin A) (k f : Fin N) (h : 1 < (⟨2, ![A, N]⟩ : Shape).rank) :
    Shape.Idx.along (s := ⟨2, ![A, N]⟩) (ix2 b k) ⟨1, h⟩ f = ix2 b f := by
  funext d
  fin_cases d <;> rfl

theorem slice_row {α : Type} (y : (⟨2, ![A, N]⟩ : Shape).Idx → α)
    (h : (⟨2, ![A, N]⟩ : Shape).Slices (fun _ => 0) (⟨2, ![A, n]⟩ : Shape)) (b : Fin A) (j : Fin n) :
    extractStridedSlice (⟨2, ![A, n]⟩ : Shape) (fun _ => 0) y h (ix2 b j) = y (ix2 b (j.castLE hn)) := by
  unfold extractStridedSlice
  refine congrArg y ?_
  funext d
  fin_cases d <;> exact Fin.ext (Nat.zero_add _)

/-- The reference's selection, read: the values and the positions taken. -/
theorem topK_eq (x : FVec Ideal (⟨2, ![A, N]⟩ : Shape) .f32)
    (h : (⟨2, ![A, N]⟩ : Shape).Slices (fun _ => 0) (⟨2, ![A, n]⟩ : Shape)) (b : Fin A) (j : Fin n) :
    (Host.topK (⟨2, ![A, n]⟩ : Shape) 1 (FloatOps.cmpfTotal .gt) x h).1 (ix2 b j)
        = x (ix2 b (taken hn (fun f => x (ix2 b f)) j))
      ∧ (Host.topK (⟨2, ![A, n]⟩ : Shape) 1 (FloatOps.cmpfTotal .gt) x h).2 (ix2 b j)
        = BitVec.ofNat 32 (taken hn (fun f => x (ix2 b f)) j) := by
  have h1 : 1 < (⟨2, ![A, N]⟩ : Shape).rank := Nat.one_lt_two
  have hs : ∀ i : Fin N, (fun k k' : Fin N =>
      (FloatOps.cmpfTotal (F := Ideal) (φ := .f32) .gt (x (Shape.Idx.along (s := ⟨2, ![A, N]⟩) (ix2 b i) ⟨1, h1⟩ k))
        (x (Shape.Idx.along (s := ⟨2, ![A, N]⟩) (ix2 b i) ⟨1, h1⟩ k'))) == 1#1) = larger fun f => x (ix2 b f) := by
    intro i
    funext k k'
    rw [along_row, along_row]
    show (BitVec.ofBool (decide (x (ix2 b k') < x (ix2 b k))) == 1#1) = decide _
    cases decide (x (ix2 b k') < x (ix2 b k)) <;> rfl
  have e : ∀ (f : Fin N → Fin N → Bool), f = (larger fun f => x (ix2 b f)) →
      sortedFrom f (j.castLE hn) = taken hn (fun f => x (ix2 b f)) j := by
    rintro f rfl
    rfl
  unfold Host.topK Host.sort2
  dsimp only
  rw [dif_pos h1]
  refine ⟨(slice_row hn _ h b j).trans ?_, (slice_row hn _ h b j).trans ?_⟩
  · refine (congrArg x (along_row b (j.castLE hn) _ h1)).trans ?_
    exact congrArg (fun f => x (ix2 b f)) (e _ (hs _))
  · dsimp only
    rw [dif_pos Nat.one_lt_two]
    refine (congrArg (iotaInDim (⟨2, ![A, N]⟩ : Shape) 32 ⟨1, h1⟩) (along_row b (j.castLE hn) _ h1)).trans ?_
    exact congrArg (fun f : Fin N => BitVec.ofNat 32 f) (e _ (hs _))

end Taken

end Cert.TopK
-- ==== Proof.TopK.Chosen.lean ====
module

public import proofs.«01_k».proof.Proof.TopK.Order

@[expose] public section

noncomputable section

/-! The selection in words of the logits: each image's 300 places of largest probability, in order. -/

namespace Cert.TopK

open Idealize.ShloMosaic

/-- The shape of the logits. -/
abbrev Logits : Shape := ⟨2, ![4, 36864]⟩

/-- The probabilities of image `b`. -/
def prob (x : FVec Ideal Logits .f32) (b : Fin 4) (f : Fin 36864) : EReal := Ideal.logistic (x (ix2 b f))

/-- The `j`-th place chosen in image `b`. -/
def chosen (x : FVec Ideal Logits .f32) (b : Fin 4) (j : Fin 300) : Fin 36864 := taken (by decide : 300 ≤ 36864) (prob x b) j

/-- The probability of the last place chosen. -/
def lastProb (x : FVec Ideal Logits .f32) (b : Fin 4) : EReal := prob x b (chosen x b ⟨299, by decide⟩)

/-- Entry `n` of the selected places of all the images, one image after another: the place with its image's offset. -/
def selectedAt (x : FVec Ideal Logits .f32) (n : Fin 1200) : BitVec 32 :=
  BitVec.ofNat 32 (chosen x ⟨(n : ℕ) / 300, by omega⟩ ⟨(n : ℕ) % 300, Nat.mod_lt _ (by decide)⟩)
    + BitVec.ofNat 32 ((n : ℕ) / 300) * 36864#32

/-- The selected places. -/
def selected (x : FVec Ideal Logits .f32) : IVec (⟨1, ![1200]⟩ : Shape) 32 := fun i => selectedAt x (i 0)

/-- What counts as near a probability `y`: from this value on. -/
def bar (y : EReal) : EReal := min (y * ((511 / 512 : ℝ) : EReal)) (y - (((2 : ℝ) ^ (-135 : ℤ) : ℝ) : EReal))

/-- In every image at most sixteen probabilities of a lane are near the last chosen one or above it. -/
def Few (x : FVec Ideal Logits .f32) : Prop := ∀ (b : Fin 4) (c : Fin 128),
  (Finset.univ.filter fun r : Fin 288 => bar (lastProb x b) ≤ prob x b ⟨128 * (r : ℕ) + c, by omega⟩).card ≤ 16

theorem prob_nonneg (x : FVec Ideal Logits .f32) (b : Fin 4) (f : Fin 36864) : 0 ≤ prob x b f := by
  unfold prob
  generalize x (ix2 b f) = y
  change EReal at y
  induction y using EReal.rec with
  | bot => rw [Ideal.logistic_bot]
  | top => rw [Ideal.logistic_top]; exact zero_le_one
  | coe r => rw [Ideal.logistic_coe]; exact_mod_cast (by positivity : (0 : ℝ) ≤ (1 + Real.exp (-r))⁻¹)

theorem prob_le_one (x : FVec Ideal Logits .f32) (b : Fin 4) (f : Fin 36864) : prob x b f ≤ 1 := by
  unfold prob
  generalize x (ix2 b f) = y
  change EReal at y
  induction y using EReal.rec with
  | bot => rw [Ideal.logistic_bot]; exact zero_le_one
  | top => rw [Ideal.logistic_top]
  | coe r =>
    rw [Ideal.logistic_coe]
    have : (1 + Real.exp (-r))⁻¹ ≤ 1 := inv_le_one_of_one_le₀ (by linarith [Real.exp_pos (-r)])
    exact_mod_cast this

end Cert.TopK
-- ==== Proof.TopK.Image.lean ====
module

public import proofs.«01_k».proof.Proof.TopK.Search
public import proofs.«01_k».proof.Proof.TopK.Chosen

@[expose] public section

noncomputable section

/-! What the selection of one image takes, when its lanes are not crowded near the 300th largest probability. -/

namespace Cert.Kernel2Ideal.TopK

open Cert.Kernel2Ideal Cert.Kernel2Ideal.Gen Idealize.ShloMosaic Cert.TopK

variable {v : FVec Ideal S288x128 .f32} {σ : Fin 300 → Fin 36864}

/-- `σ` lists 300 places, larger probabilities first, equal ones by place, before all the others. -/
structure First300 (v : FVec Ideal S288x128 .f32) (σ : Fin 300 → Fin 36864) : Prop where
  inj : Function.Injective σ
  next : ∀ j f, (∀ i, i < j → σ i ≠ f) →
    atPlace v f < atPlace v (σ j) ∨ (atPlace v f = atPlace v (σ j) ∧ σ j ≤ f)

/-- The last of the 300. -/
abbrev last300 : Fin 300 := ⟨299, by decide⟩

theorem First300.le (h : First300 v σ) (j : Fin 300) (f : Fin 36864) (hf : ∀ i, i < j → σ i ≠ f) :
    atPlace v f ≤ atPlace v (σ j) := by
  rcases h.next j f hf with h1 | h1
  · exact h1.le
  · exact h1.1.le

theorem First300.last_le (h : First300 v σ) (j : Fin 300) : atPlace v (σ last300) ≤ atPlace v (σ j) :=
  h.le j _ fun i hi e => by
    have e' : (i : ℕ) = 299 := congrArg Fin.val (h.inj e)
    have hi' : (i : ℕ) < j := hi
    have := j.isLt
    omega

theorem place_of (r : Fin 288) (c : Fin 128) : ∃ f : Fin 36864, (rowOf f, laneOf f) = (r, c) := by
  obtain ⟨f, h1, h2, -⟩ := entry_place r c
  exact ⟨f, by rw [h1, h2]⟩

/-- A word at least 300 entries reach is reached by all of the 300. -/
theorem reached_first (h : First300 v σ) (n : ℕ) (hc : 300 ≤ (reached v n).card) (j : Fin 300) :
    ((wv n : ℝ) : EReal) ≤ atPlace v (σ j) := by
  by_contra hj
  rw [not_le] at hj
  have hs : reached v n ⊆ (Finset.univ.filter fun i : Fin 300 => i < j).image fun i => (rowOf (σ i), laneOf (σ i)) := by
    rintro ⟨r, c⟩ hq
    obtain ⟨f, hf⟩ := place_of r c
    obtain ⟨rfl, rfl⟩ := Prod.mk.inj hf
    have hq' : ((wv n : ℝ) : EReal) ≤ atPlace v f := (Finset.mem_filter.1 hq).2
    by_contra hm
    refine absurd (h.le j f fun i hi e => hm ?_) (not_le.2 (hj.trans_le hq'))
    exact Finset.mem_image.2 ⟨i, Finset.mem_filter.2 ⟨Finset.mem_univ _, hi⟩, by rw [e]⟩
  have h1 := (Finset.card_le_card hs).trans Finset.card_image_le
  have h2 : (Finset.univ.filter fun i : Fin 300 => i < j).card = j := by
    rw [show (Finset.univ.filter fun i : Fin 300 => i < j) = Finset.Iio j from by ext; simp, Fin.card_Iio]
  have := j.isLt
  omega

/-- A word fewer than 300 entries reach is above the last of the 300. -/
theorem last_lt (h : First300 v σ) (n : ℕ) (hc : (reached v n).card < 300) :
    atPlace v (σ last300) < ((wv n : ℝ) : EReal) := by
  by_contra hj
  rw [not_lt] at hj
  have hs : (Finset.univ : Finset (Fin 300)).image (fun i => (rowOf (σ i), laneOf (σ i))) ⊆ reached v n := by
    intro q hq
    obtain ⟨i, -, rfl⟩ := Finset.mem_image.1 hq
    exact Finset.mem_filter.2 ⟨Finset.mem_univ _, hj.trans (h.last_le i)⟩
  have h1 := Finset.card_le_card hs
  rw [Finset.card_image_of_injective] at h1
  · simp at h1
    omega
  · intro a b e
    obtain ⟨e1, e2⟩ := Prod.mk.inj e
    refine h.inj (Fin.ext ?_)
    rw [← place_eq (σ a), ← place_eq (σ b), e1, e2]

/-- The rows of a lane whose probability is near the last of the 300, or above it. -/
def near (v : FVec Ideal S288x128 .f32) (y : EReal) (c : Fin 128) : Finset (Fin 288) :=
  Finset.univ.filter fun r => bar y ≤ v (ix2 r c)

/-- With at most sixteen such rows in every lane, the search's threshold leaves the 300 in order, and at most sixteen
    entries of a lane. -/
theorem ordered_search (h : First300 v σ) (h0 : ∀ q, 0 ≤ v q) (h1 : ∀ q, v q ≤ 1)
    (hc : ∀ c, (near v (atPlace v (σ last300)) c).card ≤ 16) : Ordered v (reach v (search v)) σ := by
  obtain ⟨n, hn, hw, hge, hlt⟩ := search_spec h0 h1
  rw [hw]
  refine ⟨h.inj, fun j => ?_, fun j f hf _ => h.next j f hf, fun f => h0 _, fun c => ?_⟩
  · exact (reach_iff _ (by omega) _ _).2 (reached_first h _ hge j)
  · refine (Finset.card_le_card fun r hr => ?_).trans (hc c)
    have hr' := (reach_iff _ (by omega) r c).1 (Finset.mem_filter.1 hr).2
    refine Finset.mem_filter.2 ⟨Finset.mem_univ _, le_trans ?_ hr'⟩
    have hy := last_lt h _ hlt
    have hy1 : atPlace v (σ last300) ≤ 1 := h1 _
    have hy0 : 0 ≤ atPlace v (σ last300) := h0 _
    generalize atPlace v (σ last300) = y at hy hy1 hy0 ⊢
    lift y to ℝ using ⟨fun e => by rw [e] at hy1; exact absurd hy1 (by decide), fun e => by rw [e] at hy0; exact absurd hy0 (by decide)⟩
    have hy' : y < wv (16384 * (n + 1)) := EReal.coe_lt_coe_iff.1 hy
    unfold bar
    rw [← EReal.coe_mul, ← EReal.coe_sub]
    rcases wv_step n hn with hs | hs
    · exact (min_le_left _ _).trans (EReal.coe_le_coe_iff.2 (by linarith))
    · exact (min_le_right _ _).trans (EReal.coe_le_coe_iff.2 (by linarith))

end Cert.Kernel2Ideal.TopK
-- ==== Proof.TopK.Array.lean ====
module

public import proofs.«01_k».proof.Proof.TopK.Frame
public import proofs.«01_k».proof.Proof.TopK.Image
public import proofs.«01_k».proof.Proof.TopK.Chosen
public import Idealize.ShloMosaic.Lib.Pipeline.ValueKit.Point
public import Idealize.ShloMosaic.Lib.Pipeline.ValueKit.Basic

@[expose] public section

noncomputable section

/-! What the selection call's output array holds at the end, and its result. -/

namespace Cert.Kernel2Ideal.TopK

open Cert.Kernel2Ideal Cert.Kernel2Ideal.Gen Idealize.ShloMosaic Idealize.ShloMosaic.TcCoe Idealize.SL.Sem Cert.TopK
open Idealize.ShloMosaic.Pipeline (Dat)

/-- Image `b` of the array the call is launched on, as a block. -/
def imageOf (X : Vec Ideal S4x288x128 .f32) (b : Fin 4) : Vec Ideal S1x288x128 .f32 := fun y => X (ix3 b (y 1) (y 2))

/-- The output array as a function of the array the call is launched on. -/
def outArr (X : Vec Ideal S4x288x128 .f32) : Vec Ideal S4x1x512 .i32 := fun i =>
  body (BitVec.ofNat 32 (i 0 : ℕ)) (imageOf X (i 0)) (ix3 0 0 (i 2))

variable (m : (ℓ : Loc nD τ sig) → Buf (Elt Ideal) ℓ) (ρ : Dev nD → PrngReg)

/-- At every point both windows stage the point's image. -/
theorem idx : ∀ t : Fin cfg0.N, win0_0.index t = ![((grid0.coords t) 0).val, 0, 0] ∧ win0_1.index t = ![((grid0.coords t) 0).val, 0, 0] :=
  (by decide +kernel : ∀ t : Fin grid0.N, _)

theorem emb_in (t : Fin cfg0.N) (y : S1x288x128.Idx) :
    ((win0_0.blk t).view.emb y : S4x288x128.Idx) = ix3 ((grid0.coords t) 0) (y 1) (y 2) := by
  blk_ext [idx t]

theorem emb_out (t : Fin cfg0.N) (y : S1x1x512.Idx) :
    ((win0_1.blk t).view.emb y : S4x1x512.Idx) = ix3 ((grid0.coords t) 0) (y 1) (y 2) := by
  blk_ext [idx t]

theorem read_in (f : Vec Ideal S4x288x128 .f32) (t : Fin cfg0.N) :
    (((cfg0.win 0).blk t).view.read (Elt Ideal) f : Vec Ideal S1x288x128 .f32) = imageOf f ((grid0.coords t) 0) :=
  funext fun y => congrArg f (emb_in t y)

/-- A point's input block is its image. -/
theorem iblk_in (c : Dev nD) (t : Fin cfg0.N) :
    (iblk m c 0 t : Vec Ideal S1x288x128 .f32) = imageOf (V m c main_v0) ((grid0.coords t) 0) := by
  unfold iblk
  exact read_in (V m c main_v0) t

/-- What the body leaves is what it computes. -/
theorem out_eq (i : grid0.Coords) (x0 : Vec Ideal S1x288x128 .f32) : out0_1 i x0 = body (image i) x0 := by
  have hz : ∀ a, (![0, 0, 0] : Fin 3 → ℕ) a = 0 := by decide
  unfold out0_1 r0_0 r0_1
  exact (View.canon_cons_unit_lit _ _ _ hz).trans (congrArg (body (image i)) (View.ld_unit_lit _ _ hz))

/-- The output array after the run. -/
theorem final (c : Dev nD) : (dats m 0 c).arrAt 1 cfg0.N = outArr (V m c main_v0) := by
  refine (dats m 0 c).arrAt_eq_of_covers 1 _ (by decide +kernel) fun t hf y => ?_
  blk_simp
  rw [after0_1, out_eq, iblk_in]
  rw [show (win0_1.blk t).view.emb y = _ from emb_out t y]
  have hy : (y : S1x1x512.Idx) = ix3 0 0 ((y : S1x1x512.Idx) 2) :=
    funext fun a => match a with
      | ⟨0, _⟩ => Subsingleton.elim (α := Fin 1) _ _
      | ⟨1, _⟩ => Subsingleton.elim (α := Fin 1) _ _
      | ⟨2, _⟩ => rfl
  exact congrArg (body (image (grid0.coords t)) (imageOf (V m c main_v0) (grid0.coords t 0))) hy

end Cert.Kernel2Ideal.TopK

end
-- ==== Proof.TopK.Result.lean ====
module

public import proofs.«01_k».proof.Proof.TopK.Array
public import Idealize.ShloMosaic.Lib.StableHlo.RunRead

@[expose] public section

noncomputable section

/-! The selection call's result: its output array, cut to 300 columns and flattened, is the selected places. -/

namespace Cert.Kernel2Ideal.TopK

open Cert.Kernel2Ideal Cert.Kernel2Ideal.Gen Idealize.ShloMosaic Idealize.ShloMosaic.TcCoe Idealize.SL.Sem Cert.TopK
open Idealize.ShloMosaic.Pipeline (Dat)

/-- The logits as the array the call is launched on. -/
def laneForm (x : Vec Ideal S4x36864 .f32) : Vec Ideal S4x288x128 .f32 := shapeCast S4x288x128 x shapeCasts_S4x36864_S4x288x128

theorem probs_apply (x : Vec Ideal S4x36864 .f32) (b : Fin 4) (r : Fin 288) (c : Fin 128) :
    probs (imageOf (laneForm x) b) (ix2 r c) = prob x b ⟨128 * (r : ℕ) + c, by omega⟩ := by
  unfold prob
  have e : probs (imageOf (laneForm x) b) (ix2 r c) = Ideal.logistic (x (ix2 b ⟨(r : ℕ) * 128 + c, by omega⟩)) := by
    pointwise [probs, imageOf, laneForm]
  rw [e]
  refine congrArg (fun f => Ideal.logistic (x (ix2 b f))) (Fin.ext ?_)
  show (r : ℕ) * 128 + c = 128 * r + c
  omega

theorem atPlace_probs (x : Vec Ideal S4x36864 .f32) (b : Fin 4) (f : Fin 36864) :
    atPlace (probs (imageOf (laneForm x) b)) f = prob x b f :=
  (probs_apply x b (rowOf f) (laneOf f)).trans (congrArg (prob x b) (Fin.ext (place_eq f)))

theorem first300 (x : Vec Ideal S4x36864 .f32) (b : Fin 4) : First300 (probs (imageOf (laneForm x) b)) (chosen x b) := by
  refine ⟨taken_injective _ _, fun j f hf => ?_⟩
  rw [atPlace_probs, atPlace_probs]
  exact taken_next _ (prob x b) j f hf

/-- The body of image `b` selects the chosen places. -/
theorem ordered (x : Vec Ideal S4x36864 .f32) (hx : Few x) (b : Fin 4) :
    Ordered (probs (imageOf (laneForm x) b))
      (reach (probs (imageOf (laneForm x) b)) (search (probs (imageOf (laneForm x) b)))) (chosen x b) := by
  have hq : ∀ q : S288x128.Idx, q = ix2 (q 0) (q 1) := fun q => funext fun a => match a with
    | ⟨0, _⟩ => rfl
    | ⟨1, _⟩ => rfl
  refine ordered_search (first300 x b) (fun q => ?_) (fun q => ?_) fun c => ?_
  · rw [hq q]; exact (prob_nonneg x b _).trans_eq (probs_apply x b _ _).symm
  · rw [hq q]; exact (probs_apply x b _ _).trans_le (prob_le_one x b _)
  · refine le_trans (Finset.card_le_card fun r hr => ?_) (hx b c)
    have hr' := (Finset.mem_filter.1 hr).2
    rw [atPlace_probs, probs_apply] at hr'
    exact Finset.mem_filter.2 ⟨Finset.mem_univ _, hr'⟩

/-- The output array's first 300 columns are the chosen places, offset by their image. -/
theorem outArr_apply (x : Vec Ideal S4x36864 .f32) (hx : Few x) (b : Fin 4) (j : Fin 512) (hj : (j : ℕ) < 300) :
    outArr (laneForm x) (ix3 b 0 j) = BitVec.ofNat 32 (chosen x b ⟨j, hj⟩) + BitVec.ofNat 32 (b : ℕ) * 36864#32 := by
  have e : ∀ (w : BitVec 32) (o : IVec S1x512 32), placed w o (ix3 0 0 j) = IntOp.addi (o (ix2 0 j)) (Scalar.muli w 36864#32) := by
    intro w o
    pointwise [placed]
  unfold outArr body
  refine (e _ _).trans ?_
  have h := selections_apply (ordered x hx b) ⟨j, hj⟩
  exact congrArg (fun w => w + BitVec.ofNat 32 (b : ℕ) * 36864#32) h

variable (m : (ℓ : Loc nD τ sig) → Buf (Elt Ideal) ℓ) (ρ : Dev nD → PrngReg)

/-- The logits the call is launched on. -/
abbrev arg (c : Dev nD) : Vec Ideal S4x36864 .f32 := m ((c.tc : Thread nD τ).loc main_arg0)

theorem V_main_v0 (c : Dev nD) : (V m c main_v0 : Vec Ideal S4x288x128 .f32) = laneForm (arg m c) := by
  unfold V V0
  dsimp only [List.flatten, List.append, hostOps0]
  after_reads_simp
  rfl

/-- The result buffer after the lines that follow the kernel. -/
theorem tail_eq (c : Dev nD) (hx : Few (arg m c)) :
    (Pipeline.afterTail₀ cfgs (dats m) 0 (V0 m) [hostOps1] c main_v4 : Vec Ideal S1200 .i32) = selected (arg m c) := by
  unfold Pipeline.afterTail₀
  have h1 : Pipeline.withArrays (cfgs 0).spec c (V0 m c) (fun w => (dats m 0 c).arrAt w (cfgs 0).N) (Proc.tc.devRef main_v1)
      = outArr (laneForm (arg m c)) :=
    (Pipeline.withArrays_arr (cfgs 0).spec winFacts0.arr_inj c (V0 m c) (fun w => (dats m 0 c).arrAt w (cfgs 0).N) 1).trans
      ((final m c).trans (congrArg outArr (V_main_v0 m c)))
  generalize Pipeline.withArrays (cfgs 0).spec c (V0 m c) (fun w => (dats m 0 c).arrAt w (cfgs 0).N) = A at h1 ⊢
  dsimp only [List.flatten, List.append, hostOps1]
  after_reads_simp
  rw [h1]
  have key := outArr_apply (arg m c) hx
  generalize outArr (laneForm (arg m c)) = G at key ⊢
  funext i
  idx_vars i
  pointwise
  show _ = selectedAt (arg m c) i0
  unfold selectedAt
  exact key _ _ (Nat.mod_lt _ (by decide))

/-- The run, read: the result is the selected places, and the logits are unchanged. -/
theorem run (hx : ∀ c, Few (arg m c)) : θ_run defs (onTc (τ := τ) (main (F := Ideal))) ⟨m, fun _ => 0, ρ⟩ fun r => ∀ c : Dev nD,
      r.2.mem ((c.tc : Thread nD τ).loc main_v4) = selected (arg m c)
      ∧ r.2.mem ((c.tc : Thread nD τ).loc main_arg0) = m ((c.tc : Thread nD τ).loc main_arg0) :=
  (θ_run defs _ _).mono (fun _ h c => ⟨((h.1 c).2 main_v4 (Pipeline.mem_restRefs_of main_v4 (by decide) (by decide))).trans
      (tail_eq m c (hx c)), h.2 c⟩)
    (θ_run_and (run_main m ρ) (unchanged m ρ))

end Cert.Kernel2Ideal.TopK

end
-- ==== Proof.TopK.Reference.lean ====
module

public import proofs.«01_k».proof.Proof.TopK.Chosen
public import proofs.«01_k».proof.Proof.Gen.Reference2Ideal.Run

@[expose] public section

noncomputable section

/-! The reference of the selection call leaves the selected places. -/

namespace Cert.Reference2Ideal.TopK

open Cert.Reference2Ideal Cert.Reference2Ideal.Gen Idealize.ShloMosaic Idealize.ShloMosaic.TcCoe Idealize.SL.Sem Cert.TopK

/-- Negation, exponential, sum and quotient are the logistic function. -/
theorem sigmoid_eq (x : FVec Ideal S4x36864 .f32) :
    (Host.divf (F := Ideal) (φ := .f32) (broadcastInDim S4x36864 ![] bcast_S_S4x36864 (constant S_ .f32 0x3F800000#32))
      (addf (broadcastInDim S4x36864 ![] bcast_S_S4x36864 (constant S_ .f32 0x3F800000#32)) (Host.exp (Host.negf x)))
      : FVec Ideal S4x36864 .f32) = fun i => Ideal.logistic (x i) := by
  funext i
  idx_vars i
  pointwise
  rfl

/-- The reference's term is the selected places. -/
theorem result_eq (x : FVec Ideal S4x36864 .f32) :
    shapeCast S1200 (addi ((Host.topK S4x300 1 (FloatOps.cmpfTotal (F := Ideal) (φ := .f32) .gt)
      (Host.divf (F := Ideal) (φ := .f32) (broadcastInDim S4x36864 ![] bcast_S_S4x36864 (constant S_ .f32 0x3F800000#32))
      (addf (broadcastInDim S4x36864 ![] bcast_S_S4x36864 (constant S_ .f32 0x3F800000#32)) (Host.exp (Host.negf x)))) sliceFits_S4x36864_S4x300).2)
      (broadcastInDim S4x300 ![0, 1] bcast_S4x1_S4x300_0_1 (muli (broadcastInDim S4x1 ![] bcast_S_S4x1 (constantI S_ 32 36864#32))
        (broadcastInDim S4x1 ![0] bcast_S4_S4x1_0 (iotaInDim S4 32 0))))) shapeCasts_S4x300_S1200 = selected x := by
  rw [sigmoid_eq]
  have key := fun b j => (topK_eq (by decide) (fun i => Ideal.logistic (x i)) sliceFits_S4x36864_S4x300 b j).2
  change ∀ (b : Fin 4) (j : Fin 300), _ = BitVec.ofNat 32 (chosen x b j) at key
  generalize Host.topK S4x300 1 (FloatOps.cmpfTotal (F := Ideal) (φ := .f32) .gt) (fun i => Ideal.logistic (x i)) sliceFits_S4x36864_S4x300 = t at key ⊢
  funext i
  idx_vars i
  pointwise
  rw [key]
  show _ = selectedAt x i0
  unfold selectedAt IntOp.addi IntOp.muli
  rw [BitVec.mul_comm]

/-- The run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = selected (m ((c.tc : Thread nD τ).loc main_arg0))
      ∧ r.2.mem ((c.tc : Thread nD τ).loc main_arg0) = m ((c.tc : Thread nD τ).loc main_arg0) :=
  (θ_run defs _ _).mono (fun _ h c => ⟨(h c).1.trans (result_eq _), (h c).2⟩) (Value.run (F := Ideal) m ρ)

end Cert.Reference2Ideal.TopK

end
-- ==== Proof.TopK.Pre.lean ====
module

public import proofs.«01_k».proof.Proof.TopK.Chosen
public import proofs.«01_k».proof.Pre_few_per_lane

@[expose] public section

noncomputable section

/-! The precondition, read. -/

namespace Cert.Pre_few_per_lane

open Idealize.ShloMosaic Cert.TopK

variable [Facts]
open Facts

/-- The two constants. -/
theorem ofBits_ratio : Ideal.ofBits FTy.f32 1065320448#32 = ((511 / 512 : ℝ) : EReal) := by
  simp [Ideal.ofBits, Ideal.ieee, -EReal.coe_mul, -EReal.coe_neg]
  norm_num

theorem ofBits_tiny : Ideal.ofBits FTy.f32 16384#32 = (((2 : ℝ) ^ (-135 : ℤ) : ℝ) : EReal) := by
  simp [Ideal.ofBits, Ideal.ieee, -EReal.coe_mul, -EReal.coe_neg]
  norm_num

/-- Negation, exponential, sum and quotient are the logistic function. -/
theorem sigmoid_eq (x : FVec Ideal S4x36864 .f32) :
    (Host.divf (F := Ideal) (φ := .f32) (broadcastInDim S4x36864 ![] bcast_S_S4x36864 (constant S_ .f32 0x3F800000#32))
      (addf (broadcastInDim S4x36864 ![] bcast_S_S4x36864 (constant S_ .f32 0x3F800000#32)) (Host.exp (Host.negf x)))
      : FVec Ideal S4x36864 .f32) = fun i => Ideal.logistic (x i) := by
  funext i
  idx_vars i
  pointwise
  rfl

/-- The precondition says that no lane is crowded near the last chosen probability. -/
theorem few_of_pre (x : FVec Ideal S4x36864 .f32) (h : fn (F := Ideal) x = fun _ => 1#1) : Few x := by
  intro b c
  have hb := congrFun h (ix2 b c)
  unfold fn fn_part1 at hb
  dsimp only at hb
  rw [sigmoid_eq] at hb
  have hl := (topK_eq (by decide) (fun i => Ideal.logistic (x i)) sliceFits_S4x36864_S4x300 b 299).1
  change _ = lastProb x b at hl
  generalize Host.topK S4x300 1 (FloatOps.cmpfTotal (F := Ideal) (φ := .f32) .gt) (fun i => Ideal.logistic (x i)) sliceFits_S4x36864_S4x300 = t at hb hl
  pointwise at hb
  rw [fold_addi_count] at hb
  have hbool : ∀ q : Bool, BitVec.ofBool q = 1#1 → q = true := by decide
  have e : ∀ s : Finset (Fin 288), IntOp.cmpi .sle (BitVec.ofNat 32 s.card) 16#32 = 1#1 → s.card ≤ 16 := by
    intro s hs
    have hc : s.card ≤ 288 := by simpa using Finset.card_le_univ s
    have h3 : (BitVec.ofNat 32 s.card).sle 16#32 = true := hbool _ hs
    rw [BitVec.sle_iff_toInt_le, BitVec.toInt_eq_toNat_of_lt (by rw [BitVec.toNat_ofNat]; omega), BitVec.toNat_ofNat] at h3
    change _ ≤ (16 : ℤ) at h3
    omega
  refine le_trans (Finset.card_le_card fun r hr => ?_) (e _ hb)
  refine Finset.mem_filter.2 ⟨Finset.mem_univ _, ?_⟩
  have hr' := (Finset.mem_filter.1 hr).2
  refine (congrArg BitVec.ofBool (decide_eq_true ?_)).trans (rfl : BitVec.ofBool true = 1#1)
  show min (t.1 (ix2 b 299) * Ideal.ofBits FTy.f32 1065320448#32) (t.1 (ix2 b 299) - Ideal.ofBits FTy.f32 16384#32) ≤ _
  rw [hl, ofBits_ratio, ofBits_tiny]
  refine le_of_le_of_eq hr' (congrArg (prob x b) (Fin.ext ?_))
  show 128 * (r : ℕ) + c = r * 128 + c
  omega

end Cert.Pre_few_per_lane
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal.Run
public import proofs.«01_k».proof.Proof.Gen.Reference2Ideal
public import proofs.«01_k».proof.Proof.Gen.Pre_few_per_lane
public import proofs.«01_k».proof.Proof.Gen.ReferenceIdeal
public import proofs.«01_k».proof.Proof.Conv.Result
public import proofs.«01_k».proof.Proof.Conv.Reference
public import proofs.«01_k».proof.Proof.TopK.BitsFrame
public import proofs.«01_k».proof.Proof.TopK.Result
public import proofs.«01_k».proof.Proof.TopK.Reference
public import proofs.«01_k».proof.Proof.TopK.Pre
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments unchanged, and has no semaphores. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference leave the same logits, from memories that agree on the arguments. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, Cert.KernelIdeal.Conv.run m ρ, ?_⟩
  refine (θ_run Cert.ReferenceIdeal.defs _ _).mono (fun r h c => ⟨?_, (h c).2⟩) (Cert.ReferenceIdeal.Value.run (F := Ideal) m' ρ')
  refine (h c).1.trans ((Cert.ReferenceIdeal.Conv.result_eq m' c).trans ?_)
  obtain ⟨h0, h1, h2, h3, h4⟩ := hagree c
  unfold Cert.ReferenceIdeal.Conv.fm Cert.ReferenceIdeal.Conv.wpre Cert.ReferenceIdeal.Conv.bpre Cert.ReferenceIdeal.Conv.wproj
    Cert.ReferenceIdeal.Conv.bproj
  rw [h0, h1, h2, h3, h4]

/-- The reference of the selection runs, leaves the logits unchanged, and has no semaphores. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the extended reals the selection and its reference leave the same places, from the same logits, when no lane is
    crowded near the last chosen probability. -/
theorem algebraic2 : Cert.algebraic_Kernel2Ideal_Reference2Ideal_pre_few_per_lane (hKernel2Ideal := Cert.Kernel2Ideal.Gen.facts)
    (hReference2Ideal := Cert.Reference2Ideal.Gen.facts) (hPre_few_per_lane := Cert.Pre_few_per_lane.Gen.facts) := by
  intro m ρ m' ρ' hpre hagree
  refine ⟨_, Cert.Kernel2Ideal.TopK.run m ρ fun c => Cert.Pre_few_per_lane.few_of_pre _ (hpre c), ?_⟩
  refine (θ_run Cert.Reference2Ideal.defs _ _).mono (fun r h c => ⟨?_, (h c).2⟩) (Cert.Reference2Ideal.TopK.run m' ρ')
  exact (h c).1.trans (congrArg Cert.TopK.selected (hagree c))

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_few_per_lane.Gen.facts,
  fun m ρ _ => Cert.Kernel.Gen.frame m ρ, fun m ρ _ => Cert.KernelIdeal.Gen.frame m ρ, frame_reference,
  fun m ρ _ => Cert.Kernel2.TopK.frame m ρ, fun m ρ _ => Cert.Kernel2Ideal.TopK.frame m ρ,
  fun m ρ _ => Cert.Kernel2Ideal.TopK.frame m ρ, frame_reference2, fun m ρ _ => frame_reference2 m ρ trivial,
  trivial, algebraic, trivial, algebraic2⟩

end Cert.Proof

end
